-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sixteenth_is_separate [hPre_sixteenth_is_separate : Cert.Pre_sixteenth_is_separate.Facts] (m : (ℓ : Loc Cert.KernelIdeal.nD Cert.KernelIdeal.τ Cert.KernelIdeal.sig) → Buf (Elt Ideal) ℓ) : Prop :=
  ∀ c : Dev Cert.KernelIdeal.nD,
    (Cert.Pre_sixteenth_is_separate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_sixteenth_is_separate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_sixteenth_is_separate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sixteenth_is_separate [hPre_sixteenth_is_separate : Cert.Pre_sixteenth_is_separate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sixteenth_is_separate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_sixteenth_is_separate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_sixteenth_is_separate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sixteenth_is_separate [hKernelIdeal : Cert.KernelIdeal.Facts] [hPre_sixteenth_is_separate : Cert.Pre_sixteenth_is_separate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sixteenth_is_separate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sixteenth_is_separate [hReferenceIdeal : Cert.ReferenceIdeal.Facts] [hPre_sixteenth_is_separate : Cert.Pre_sixteenth_is_separate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sixteenth_is_separate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_sixteenth_is_separate [hKernelIdeal : Cert.KernelIdeal.Facts] [hReferenceIdeal : Cert.ReferenceIdeal.Facts] [hPre_sixteenth_is_separate : Cert.Pre_sixteenth_is_separate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sixteenth_is_separate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sixteenth_is_separate : Cert.Pre_sixteenth_is_separate.Facts),
    quiescent_Kernel (hKernel := hKernel)
    ∧ quiescent_KernelIdeal (hKernelIdeal := hKernelIdeal)
    ∧ quiescent_KernelIdeal_pre_sixteenth_is_separate (hKernelIdeal := hKernelIdeal) (hPre_sixteenth_is_separate := hPre_sixteenth_is_separate)
    ∧ quiescent_ReferenceIdeal (hReferenceIdeal := hReferenceIdeal)
    ∧ quiescent_ReferenceIdeal_pre_sixteenth_is_separate (hReferenceIdeal := hReferenceIdeal) (hPre_sixteenth_is_separate := hPre_sixteenth_is_separate)
    ∧ preserves_Kernel_KernelIdeal
    ∧ algebraic_KernelIdeal_ReferenceIdeal_pre_sixteenth_is_separate (hKernelIdeal := hKernelIdeal) (hReferenceIdeal := hReferenceIdeal) (hPre_sixteenth_is_separate := hPre_sixteenth_is_separate)
-- ==== Pre_sixteenth_is_separate.lean ====
abbrev S4x3x8192 : Shape := ⟨3, ![4, 3, 8192]⟩
abbrev S4x3x2048 : Shape := ⟨3, ![4, 3, 2048]⟩
abbrev S_ : Shape := ⟨0, ![]⟩
abbrev S4x8192 : Shape := ⟨2, ![4, 8192]⟩
abbrev S4x2048 : Shape := ⟨2, ![4, 2048]⟩
abbrev S4x2048x8192 : Shape := ⟨3, ![4, 2048, 8192]⟩
abbrev S4x2048x1 : Shape := ⟨3, ![4, 2048, 1]⟩
abbrev S4x1x8192 : Shape := ⟨3, ![4, 1, 8192]⟩
abbrev S4x2048x17 : Shape := ⟨3, ![4, 2048, 17]⟩

class Facts : Prop where
  reducesTo_S4x3x8192_S4x8192_d1 : S4x3x8192.ReducesTo [1] S4x8192
  h_S_ : 0 < S_.numel
  reducesTo_S4x3x2048_S4x2048_d1 : S4x3x2048.ReducesTo [1] S4x2048
  bcast_S4x2048_S4x2048x1_0_1 : S4x2048.BroadcastsInDim S4x2048x1 (![0, 1] : Fin 2 → Fin S4x2048x1.rank)
  bcast_S_S4x2048x8192 : S_.BroadcastsInDim S4x2048x8192 (![] : Fin 0 → Fin S4x2048x8192.rank)
  bcast_S4x2048x1_S4x2048x8192_0_1_2 : S4x2048x1.BroadcastsInDim S4x2048x8192 (![0, 1, 2] : Fin 3 → Fin S4x2048x8192.rank)
  bcast_S4x8192_S4x1x8192_0_2 : S4x8192.BroadcastsInDim S4x1x8192 (![0, 2] : Fin 2 → Fin S4x1x8192.rank)
  bcast_S4x1x8192_S4x2048x8192_0_1_2 : S4x1x8192.BroadcastsInDim S4x2048x8192 (![0, 1, 2] : Fin 3 → Fin S4x2048x8192.rank)
  sliceFits_S4x2048x8192_S4x2048x17 : S4x2048x8192.Slices (fun _ => 0) S4x2048x17
  slices_S4x2048x17_S4x2048x1_0_0_15 : S4x2048x17.Slices ![0, 0, 15] S4x2048x1
  shapeCasts_S4x2048x1_S4x2048 : S4x2048x1.ShapeCasts S4x2048
  slices_S4x2048x17_S4x2048x1_0_0_16 : S4x2048x17.Slices ![0, 0, 16] S4x2048x1
  bcast_S_S4x3x8192 : S_.BroadcastsInDim S4x3x8192 (![] : Fin 0 → Fin S4x3x8192.rank)
  bcast_S_S4x3x2048 : S_.BroadcastsInDim S4x3x2048 (![] : Fin 0 → Fin S4x3x2048.rank)
  dot_S4x3x2048_S4x3x8192_S4x2048x8192_1_1_2_2_0_0_wf : DotDims.WF S4x3x2048 S4x3x8192 S4x2048x8192 [1] [1] [2] [2] [0] [0]

variable [Facts]

def dot_S4x3x2048_S4x3x8192_S4x2048x8192_1_1_2_2_0_0 : DotDims S4x3x2048 S4x3x8192 S4x2048x8192 where
  lhsContracting := [1]
  rhsContracting := [1]
  lhsNonContracting := [2]
  rhsNonContracting := [2]
  lhsBatch := [0]
  rhsBatch := [0]
  wf := dot_S4x3x2048_S4x3x8192_S4x2048x8192_1_1_2_2_0_0_wf
def fn_part1 {F : FTy → Type} [FloatOps F] (main_arg0 : FVec F S4x3x8192 .f32) (main_arg1 : FVec F S4x3x2048 .f32) (main_v18 : IVec S4x2048 1) : IVec S4x3x8192 1 × IVec S4x3x2048 1 × IVec S4x2048 1 :=
  let main_v19 : FVec F S4x3x8192 .f32 := Host.absf main_arg0
  let main_cst_2 : FVec F S_ .f32 := constant S_ .f32 0x7F800000#32
  let main_v20 : FVec F S4x3x8192 .f32 := broadcastInDim S4x3x8192 ![] bcast_S_S4x3x8192 main_cst_2
  let main_v21 : IVec S4x3x8192 1 := cmpf .olt main_v19 main_v20
  let main_v22 : FVec F S4x3x2048 .f32 := Host.absf main_arg1
  let main_cst_3 : FVec F S_ .f32 := constant S_ .f32 0x7F800000#32
  let main_v23 : FVec F S4x3x2048 .f32 := broadcastInDim S4x3x2048 ![] bcast_S_S4x3x2048 main_cst_3
  let main_v24 : IVec S4x3x2048 1 := cmpf .olt main_v22 main_v23
  (main_v21, main_v24, main_v18)

def fn {F : FTy → Type} [FloatOps F] (main_arg0 : FVec F S4x3x8192 .f32) (main_arg1 : FVec F S4x3x2048 .f32) (main_arg2 : FVec F S_ .f32) : IVec S4x3x8192 1 × IVec S4x3x2048 1 × IVec S4x2048 1 :=
  let main_v0 : FVec F S4x3x8192 .f32 := mulf main_arg0 main_arg0
  let main_cst : FVec F S_ .f32 := constant S_ .f32 0x00000000#32
  let main_v1 : FVec F S4x8192 .f32 := (fun x v => Host.reduceAdd x v reducesTo_S4x3x8192_S4x8192_d1 h_S_) main_v0 main_cst
  let main_v2 : FVec F S4x3x2048 .f32 := mulf main_arg1 main_arg1
  let main_cst_0 : FVec F S_ .f32 := constant S_ .f32 0x00000000#32
  let main_v3 : FVec F S4x2048 .f32 := (fun x v => Host.reduceAdd x v reducesTo_S4x3x2048_S4x2048_d1 h_S_) main_v2 main_cst_0
  let main_v4 : FVec F S4x2048x8192 .f32 := (fun l r => Host.dotGeneral dot_S4x3x2048_S4x3x8192_S4x2048x8192_1_1_2_2_0_0 none l r) main_arg1 main_arg0
  let main_v5 : FVec F S4x2048x1 .f32 := broadcastInDim S4x2048x1 ![0, 1] bcast_S4x2048_S4x2048x1_0_1 main_v3
  let main_cst_1 : FVec F S_ .f32 := constant S_ .f32 0x40000000#32
  let main_v6 : FVec F S4x2048x8192 .f32 := broadcastInDim S4x2048x8192 ![] bcast_S_S4x2048x8192 main_cst_1
  let main_v7 : FVec F S4x2048x8192 .f32 := mulf main_v6 main_v4
  let main_v8 : FVec F S4x2048x8192 .f32 := broadcastInDim S4x2048x8192 ![0, 1, 2] bcast_S4x2048x1_S4x2048x8192_0_1_2 main_v5
  let main_v9 : FVec F S4x2048x8192 .f32 := subf main_v8 main_v7
  let main_v10 : FVec F S4x1x8192 .f32 := broadcastInDim S4x1x8192 ![0, 2] bcast_S4x8192_S4x1x8192_0_2 main_v1
  let main_v11 : FVec F S4x2048x8192 .f32 := broadcastInDim S4x2048x8192 ![0, 1, 2] bcast_S4x1x8192_S4x2048x8192_0_1_2 main_v10
  let main_v12 : FVec F S4x2048x8192 .f32 := addf main_v9 main_v11
  let main_v13 : FVec F S4x2048x8192 .f32 := Host.negf main_v12
  let main_values : FVec F S4x2048x17 .f32 := (fun x => (Host.topK S4x2048x17 2 (FloatOps.cmpfTotal .gt) x sliceFits_S4x2048x8192_S4x2048x17).1) main_v13
  let main_indices : IVec S4x2048x17 32 := (fun x => (Host.topK S4x2048x17 2 (FloatOps.cmpfTotal .gt) x sliceFits_S4x2048x8192_S4x2048x17).2) main_v13
  let main_v14 : FVec F S4x2048x1 .f32 := (extractStridedSlice S4x2048x1 ![0, 0, 15] · slices_S4x2048x17_S4x2048x1_0_0_15) main_values
  let main_v15 : FVec F S4x2048 .f32 := shapeCast S4x2048 main_v14 shapeCasts_S4x2048x1_S4x2048
  let main_v16 : FVec F S4x2048x1 .f32 := (extractStridedSlice S4x2048x1 ![0, 0, 16] · slices_S4x2048x17_S4x2048x1_0_0_16) main_values
  let main_v17 : FVec F S4x2048 .f32 := shapeCast S4x2048 main_v16 shapeCasts_S4x2048x1_S4x2048
  let main_v18 : IVec S4x2048 1 := cmpf .ogt main_v15 main_v17
  fn_part1 (F := F) main_arg0 main_arg1 main_v18
-- ==== Kernel.lean ====
abbrev S4x3x8192 : Shape := ⟨3, ![4, 3, 8192]⟩
abbrev S4x3x2048 : Shape := ⟨3, ![4, 3, 2048]⟩
abbrev S_ : Shape := ⟨0, ![]⟩
abbrev S1x1 : Shape := ⟨2, ![1, 1]⟩
abbrev S4x8192 : Shape := ⟨2, ![4, 8192]⟩
abbrev S4x8192x1 : Shape := ⟨3, ![4, 8192, 1]⟩
abbrev S4x1x8192 : Shape := ⟨3, ![4, 1, 8192]⟩
abbrev S4x16x512 : Shape := ⟨3, ![4, 16, 512]⟩
abbrev S4x512x16 : Shape := ⟨3, ![4, 512, 16]⟩
abbrev S4x512x144 : Shape := ⟨3, ![4, 512, 144]⟩
abbrev S1x3x8192 : Shape := ⟨3, ![1, 3, 8192]⟩
abbrev S1x3x256 : Shape := ⟨3, ![1, 3, 256]⟩
abbrev S1x8192x1 : Shape := ⟨3, ![1, 8192, 1]⟩
abbrev S1x512x144 : Shape := ⟨3, ![1, 512, 144]⟩
abbrev S3x8192 : Shape := ⟨2, ![3, 8192]⟩
abbrev S3x256 : Shape := ⟨2, ![3, 256]⟩
abbrev S8192x1 : Shape := ⟨2, ![8192, 1]⟩
abbrev S512x144 : Shape := ⟨2, ![512, 144]⟩
abbrev S1x256 : Shape := ⟨2, ![1, 256]⟩
abbrev S8192x256 : Shape := ⟨2, ![8192, 256]⟩
abbrev S512x256 : Shape := ⟨2, ![512, 256]⟩
abbrev S512x1 : Shape := ⟨2, ![512, 1]⟩
abbrev S256 : Shape := ⟨1, ![256]⟩
abbrev S512x4096 : Shape := ⟨2, ![512, 4096]⟩
abbrev S144x4096 : Shape := ⟨2, ![144, 4096]⟩
abbrev S48x4096 : Shape := ⟨2, ![48, 4096]⟩
abbrev S16x4096 : Shape := ⟨2, ![16, 4096]⟩
abbrev S16x256 : Shape := ⟨2, ![16, 256]⟩
abbrev S256x256 : Shape := ⟨2, ![256, 256]⟩

abbrev nBuf : Space → Nat
  | .hbm => 76
  | .vmem => 10
  | .smem => 1
  | _ => 0

abbrev bufTy : (tb : Table) → Fin (tcTables nBuf tb) → BufTy
  | .hbm, ⟨0, _⟩ => ⟨S4x3x8192, .f32⟩
  | .hbm, ⟨1, _⟩ => ⟨S4x3x2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S4x3x8192, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x1x8192, .f32⟩
  | .hbm, ⟨12, _⟩ => ⟨S4x8192, .f32⟩
  | .hbm, ⟨13, _⟩ => ⟨S4x8192, .bf16⟩
  | .hbm, ⟨14, _⟩ => ⟨S4x8192, .f32⟩
  | .hbm, ⟨15, _⟩ => ⟨S4x8192, .f32⟩
  | .hbm, ⟨16, _⟩ => ⟨S4x8192, .bf16⟩
  | .hbm, ⟨17, _⟩ => ⟨S4x8192, .f32⟩
  | .hbm, ⟨18, _⟩ => ⟨S4x8192, .f32⟩
  | .hbm, ⟨19, _⟩ => ⟨S4x8192, .bf16⟩
  | .hbm, ⟨20, _⟩ => ⟨S4x1x8192, .f32⟩
  | .hbm, ⟨21, _⟩ => ⟨S4x8192, .f32⟩
  | .hbm, ⟨22, _⟩ => ⟨S4x8192, .bf16⟩
  | .hbm, ⟨23, _⟩ => ⟨S4x8192, .f32⟩
  | .hbm, ⟨24, _⟩ => ⟨S4x8192, .f32⟩
  | .hbm, ⟨25, _⟩ => ⟨S4x8192, .bf16⟩
  | .hbm, ⟨26, _⟩ => ⟨S4x8192, .f32⟩
  | .hbm, ⟨27, _⟩ => ⟨S4x8192, .f32⟩
  | .hbm, ⟨28, _⟩ => ⟨S4x8192, .bf16⟩
  | .hbm, ⟨29, _⟩ => ⟨S4x1x8192, .f32⟩
  | .hbm, ⟨30, _⟩ => ⟨S4x8192, .f32⟩
  | .hbm, ⟨31, _⟩ => ⟨S4x8192, .bf16⟩
  | .hbm, ⟨32, _⟩ => ⟨S4x8192, .f32⟩
  | .hbm, ⟨33, _⟩ => ⟨S4x8192, .f32⟩
  | .hbm, ⟨34, _⟩ => ⟨S4x8192, .bf16⟩
  | .hbm, ⟨35, _⟩ => ⟨S4x8192, .f32⟩
  | .hbm, ⟨36, _⟩ => ⟨S4x8192, .f32⟩
  | .hbm, ⟨37, _⟩ => ⟨S4x8192, .bf16⟩
  | .hbm, ⟨38, _⟩ => ⟨S4x8192, .f32⟩
  | .hbm, ⟨39, _⟩ => ⟨S4x16x512, .f32⟩
  | .hbm, ⟨40, _⟩ => ⟨S4x512x16, .f32⟩
  | .hbm, ⟨41, _⟩ => ⟨S4x512x16, .bf16⟩
  | .hbm, ⟨42, _⟩ => ⟨S4x8192, .f32⟩
  | .hbm, ⟨43, _⟩ => ⟨S4x16x512, .f32⟩
  | .hbm, ⟨44, _⟩ => ⟨S4x512x16, .f32⟩
  | .hbm, ⟨45, _⟩ => ⟨S4x512x16, .bf16⟩
  | .hbm, ⟨46, _⟩ => ⟨S4x8192, .f32⟩
  | .hbm, ⟨47, _⟩ => ⟨S4x16x512, .f32⟩
  | .hbm, ⟨48, _⟩ => ⟨S4x512x16, .f32⟩
  | .hbm, ⟨49, _⟩ => ⟨S4x512x16, .bf16⟩
  | .hbm, ⟨50, _⟩ => ⟨S4x8192, .f32⟩
  | .hbm, ⟨51, _⟩ => ⟨S4x16x512, .f32⟩
  | .hbm, ⟨52, _⟩ => ⟨S4x512x16, .f32⟩
  | .hbm, ⟨53, _⟩ => ⟨S4x512x16, .bf16⟩
  | .hbm, ⟨54, _⟩ => ⟨S4x8192, .f32⟩
  | .hbm, ⟨55, _⟩ => ⟨S4x16x512, .f32⟩
  | .hbm, ⟨56, _⟩ => ⟨S4x512x16, .f32⟩
  | .hbm, ⟨57, _⟩ => ⟨S4x512x16, .bf16⟩
  | .hbm, ⟨58, _⟩ => ⟨S4x8192, .f32⟩
  | .hbm, ⟨59, _⟩ => ⟨S4x16x512, .f32⟩
  | .hbm, ⟨60, _⟩ => ⟨S4x512x16, .f32⟩
  | .hbm, ⟨61, _⟩ => ⟨S4x512x16, .bf16⟩
  | .hbm, ⟨62, _⟩ => ⟨S4x8192, .f32⟩
  | .hbm, ⟨63, _⟩ => ⟨S4x16x512, .f32⟩
  | .hbm, ⟨64, _⟩ => ⟨S4x512x16, .f32⟩
  | .hbm, ⟨65, _⟩ => ⟨S4x512x16, .bf16⟩
  | .hbm, ⟨66, _⟩ => ⟨S4x8192, .f32⟩
  | .hbm, ⟨67, _⟩ => ⟨S4x16x512, .f32⟩
  | .hbm, ⟨68, _⟩ => ⟨S4x512x16, .f32⟩
  | .hbm, ⟨69, _⟩ => ⟨S4x512x16, .bf16⟩
  | .hbm, ⟨70, _⟩ => ⟨S4x8192, .f32⟩
  | .hbm, ⟨71, _⟩ => ⟨S4x16x512, .f32⟩
  | .hbm, ⟨72, _⟩ => ⟨S4x512x16, .f32⟩
  | .hbm, ⟨73, _⟩ => ⟨S4x512x16, .bf16⟩
  | .hbm, ⟨74, _⟩ => ⟨S4x512x144, .bf16⟩
  | .hbm, ⟨75, _⟩ => ⟨S4x3x2048, .f32⟩
  | .local _ .vmem, ⟨0, _⟩ => ⟨S1x3x8192, .f32⟩
  | .local _ .vmem, ⟨1, _⟩ => ⟨S1x3x8192, .f32⟩
  | .local _ .vmem, ⟨2, _⟩ => ⟨S1x3x256, .f32⟩
  | .local _ .vmem, ⟨3, _⟩ => ⟨S1x3x256, .f32⟩
  | .local _ .vmem, ⟨4, _⟩ => ⟨S1x8192x1, .f32⟩
  | .local _ .vmem, ⟨5, _⟩ => ⟨S1x8192x1, .f32⟩
  | .local _ .vmem, ⟨6, _⟩ => ⟨S1x512x144, .bf16⟩
  | .local _ .vmem, ⟨7, _⟩ => ⟨S1x512x144, .bf16⟩
  | .local _ .vmem, ⟨8, _⟩ => ⟨S1x3x256, .f32⟩
  | .local _ .vmem, ⟨9, _⟩ => ⟨S1x3x256, .f32⟩
  | .local _ .smem, ⟨0, _⟩ => ⟨S1x1, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "big" => some ⊤
  | _ => none
-- ==== ReferenceIdeal.lean ====
abbrev S4x3x8192 : Shape := ⟨3, ![4, 3, 8192]⟩
abbrev S4x3x2048 : Shape := ⟨3, ![4, 3, 2048]⟩
abbrev S_ : Shape := ⟨0, ![]⟩
abbrev S4x8192 : Shape := ⟨2, ![4, 8192]⟩
abbrev S4x2048 : Shape := ⟨2, ![4, 2048]⟩
abbrev S4x2048x8192 : Shape := ⟨3, ![4, 2048, 8192]⟩
abbrev S4x2048x1 : Shape := ⟨3, ![4, 2048, 1]⟩
abbrev S4x1x8192 : Shape := ⟨3, ![4, 1, 8192]⟩
abbrev S4x2048x16 : Shape := ⟨3, ![4, 2048, 16]⟩
abbrev S4x2048x16x1 : Shape := ⟨4, ![4, 2048, 16, 1]⟩
abbrev S4x3x2048x16 : Shape := ⟨4, ![4, 3, 2048, 16]⟩
abbrev S4x3x2048x1 : Shape := ⟨4, ![4, 3, 2048, 1]⟩
abbrev S4x1x2048x16 : Shape := ⟨4, ![4, 1, 2048, 16]⟩
abbrev S4x1x2048 : Shape := ⟨3, ![4, 1, 2048]⟩
abbrev S4x1x2048x1 : Shape := ⟨4, ![4, 1, 2048, 1]⟩

abbrev nBuf : Space → Nat
  | .hbm => 64
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x2048, .f32⟩
  | .hbm, ⟨2, _⟩ => ⟨S_, .f32⟩
  | .hbm, ⟨3, _⟩ => ⟨S4x3x8192, .f32⟩
  | .hbm, ⟨4, _⟩ => ⟨S_, .f32⟩
  | .hbm, ⟨5, _⟩ => ⟨S4x8192, .f32⟩
  | .hbm, ⟨6, _⟩ => ⟨S4x3x2048, .f32⟩
  | .hbm, ⟨7, _⟩ => ⟨S_, .f32⟩
  | .hbm, ⟨8, _⟩ => ⟨S4x2048, .f32⟩
  | .hbm, ⟨9, _⟩ => ⟨S4x2048x8192, .f32⟩
  | .hbm, ⟨10, _⟩ => ⟨S4x2048x1, .f32⟩
  | .hbm, ⟨11, _⟩ => ⟨S_, .f32⟩
  | .hbm, ⟨12, _⟩ => ⟨S4x2048x8192, .f32⟩
  | .hbm, ⟨13, _⟩ => ⟨S4x2048x8192, .f32⟩
  | .hbm, ⟨14, _⟩ => ⟨S4x2048x8192, .f32⟩
  | .hbm, ⟨15, _⟩ => ⟨S4x2048x8192, .f32⟩
  | .hbm, ⟨16, _⟩ => ⟨S4x1x8192, .f32⟩
  | .hbm, ⟨17, _⟩ => ⟨S4x2048x8192, .f32⟩
  | .hbm, ⟨18, _⟩ => ⟨S4x2048x8192, .f32⟩
  | .hbm, ⟨19, _⟩ => ⟨S4x2048x8192, .f32⟩
  | .hbm, ⟨20, _⟩ => ⟨S4x2048x16, .f32⟩
  | .hbm, ⟨21, _⟩ => ⟨S4x2048x16, .i32⟩
  | .hbm, ⟨22, _⟩ => ⟨S_, .i32⟩
  | .hbm, ⟨23, _⟩ => ⟨S4x2048x16, .i32⟩
  | .hbm, ⟨24, _⟩ => ⟨S4x2048x16, .i1⟩
  | .hbm, ⟨25, _⟩ => ⟨S_, .i32⟩
  | .hbm, ⟨26, _⟩ => ⟨S4x2048x16, .i32⟩
  | .hbm, ⟨27, _⟩ => ⟨S4x2048x16, .i32⟩
  | .hbm, ⟨28, _⟩ => ⟨S4x2048x16, .i32⟩
  | .hbm, ⟨29, _⟩ => ⟨S4x2048x16x1, .i32⟩
  | .hbm, ⟨30, _⟩ => ⟨S4x3x2048x16, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x3x2048x1, .f32⟩
  | .hbm, ⟨35, _⟩ => ⟨S4x3x2048x16, .f32⟩
  | .hbm, ⟨36, _⟩ => ⟨S4x3x2048x16, .f32⟩
  | .hbm, ⟨37, _⟩ => ⟨S4x3x2048x16, .f32⟩
  | .hbm, ⟨38, _⟩ => ⟨S_, .f32⟩
  | .hbm, ⟨39, _⟩ => ⟨S4x2048x16, .f32⟩
  | .hbm, ⟨40, _⟩ => ⟨S4x1x2048x16, .f32⟩
  | .hbm, ⟨41, _⟩ => ⟨S_, .f32⟩
  | .hbm, ⟨42, _⟩ => ⟨S_, .f32⟩
  | .hbm, ⟨43, _⟩ => ⟨S4x1x2048x16, .f32⟩
  | .hbm, ⟨44, _⟩ => ⟨S4x1x2048x16, .f32⟩
  | .hbm, ⟨45, _⟩ => ⟨S4x1x2048x16, .f32⟩
  | .hbm, ⟨46, _⟩ => ⟨S_, .f32⟩
  | .hbm, ⟨47, _⟩ => ⟨S4x1x2048, .f32⟩
  | .hbm, ⟨48, _⟩ => ⟨S_, .f32⟩
  | .hbm, ⟨49, _⟩ => ⟨S4x1x2048, .f32⟩
  | .hbm, ⟨50, _⟩ => ⟨S4x1x2048, .f32⟩
  | .hbm, ⟨51, _⟩ => ⟨S4x1x2048x1, .f32⟩
  | .hbm, ⟨52, _⟩ => ⟨S4x1x2048x16, .f32⟩
  | .hbm, ⟨53, _⟩ => ⟨S4x1x2048x16, .f32⟩
  | .hbm, ⟨54, _⟩ => ⟨S4x1x2048x16, .f32⟩
  | .hbm, ⟨55, _⟩ => ⟨S_, .f32⟩
  | .hbm, ⟨56, _⟩ => ⟨S4x1x2048, .f32⟩
  | .hbm, ⟨57, _⟩ => ⟨S4x1x2048x1, .f32⟩
  | .hbm, ⟨58, _⟩ => ⟨S4x1x2048x16, .f32⟩
  | .hbm, ⟨59, _⟩ => ⟨S4x1x2048x16, .f32⟩
  | .hbm, ⟨60, _⟩ => ⟨S4x3x2048x16, .f32⟩
  | .hbm, ⟨61, _⟩ => ⟨S4x3x2048x16, .f32⟩
  | .hbm, ⟨62, _⟩ => ⟨S_, .f32⟩
  | .hbm, ⟨63, _⟩ => ⟨S4x3x2048, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.Body.lean ====
/- What the kernel's body computes at one grid point, written as a few functions of its input blocks: the table of
   squared distances taken group by group, a ROUND of extraction (shared by both passes), the look-up of the
   candidates by a product with the marks, the second pass, the weights and the quotient. `Body.block` composes them. -/
module

public import proofs.«01_k».proof.Proof.Gen.KernelIdeal.Skeleton

@[expose] public section

noncomputable section

namespace Cert.Proof.Body

open Cert.KernelIdeal Cert.KernelIdeal.Gen Idealize.ShloMosaic

variable {F : FTy → Type} [FloatOps F] [Named F]

/-! ## One round of extraction, on a table of `n` rows and 256 columns -/

/-- A table of `n` rows, one column for each query point of the block. -/
abbrev Tab (n : ℕ) : Shape := ⟨2, ![n, 256]⟩

section Round

variable {n : ℕ} (hr : (Tab n).Reduces [0] S256) (hb : S1x256.Broadcasts (Tab n)) (hi : (Tab n).Iotas .tc 32 [0])

/-- Row numbers where the column is smallest, `n` elsewhere. -/
def lowRows (v : FVec F (Tab n) .f32) : IVec (Tab n) 32 :=
  select (cmpf .oeq v (broadcastTo (Tab n) (shapeCast S1x256
      (multiReduction .minimumf [0] S256 v 0x7F800000#32 hr (.inl rfl) rfl) shapeCasts_S256_S1x256) hb))
    (iota .tc (Tab n) 32 [0] hi) (broadcast (Tab n) (BitVec.ofNat 32 n))

/-- The mark of a round: one at the first row at which the column is smallest, zero elsewhere. -/
def mark (v : FVec F (Tab n) .f32) : IVec (Tab n) 1 :=
  cmpi .eq (lowRows hr hb hi v) (broadcastTo (Tab n) (shapeCast S1x256
    (multiReductionI .minsi [0] S256 (lowRows hr hb hi v) 2147483647#32 hr rfl) shapeCasts_S256_S1x256) hb)

/-- The table after a round: the marked entries overwritten by the named constant. -/
def drop (v : FVec F (Tab n) .f32) : FVec F (Tab n) .f32 :=
  select (mark hr hb hi v) (broadcast (Tab n) (Named.named Cert.KernelIdeal.κ "big" 0x7F61B1E6#32)) v

/-- The table before round `k`. -/
def tabAt (v : FVec F (Tab n) .f32) : ℕ → FVec F (Tab n) .f32
  | 0 => v
  | k + 1 => drop hr hb hi (tabAt v k)

/-- The mark of round `k`. -/
def markAt (v : FVec F (Tab n) .f32) (k : ℕ) : IVec (Tab n) 1 := mark hr hb hi (tabAt hr hb hi v k)

/-- The marks of the rounds up to round `k`, united. -/
def marksTo (v : FVec F (Tab n) .f32) : ℕ → IVec (Tab n) 1
  | 0 => markAt hr hb hi v 0
  | k + 1 => ori (marksTo v k) (markAt hr hb hi v (k + 1))

end Round

/-- The first pass: marks over the 512 groups. -/
abbrev groupMark (v : FVec F S512x256 .f32) (k : ℕ) : IVec S512x256 1 :=
  markAt reduces_S512x256_S256 broadcasts_S1x256_S512x256 iota_S512x256_d0_w32 v k

/-- The second pass: the sixteen marks over the 256 candidates, united. -/
abbrev chosen (v : FVec F S256x256 .f32) : IVec S256x256 1 :=
  marksTo reduces_S256x256_S256 broadcasts_S1x256_S256x256 iota_S256x256_d0_w32 v 15

/-! ## The distances and the groups' minima -/

/-- The inner products of all points of the block with its query points. -/
def inner (x0 : Vec F S1x3x8192 .f32) (x1 : Vec F S1x3x256 .f32) : FVec F S8192x256 .f32 :=
  matmul dot_S3x8192_S3x256_S8192x256_0_0_1_1_n_n none (shapeCast S3x8192 x0 shapeCasts_S1x3x8192_S3x8192)
    (shapeCast S3x256 x1 shapeCasts_S1x3x256_S3x256) (constant S8192x256 .f32 0x00000000#32)

/-- Coordinate `a` of the query points. -/
def qrow (a : ℕ) (x1 : Vec F S1x3x256 .f32) (h : S3x256.Slices ![a, 0] S1x256) : FVec F S1x256 .f32 :=
  extractStridedSlice S1x256 ![a, 0] (shapeCast S3x256 x1 shapeCasts_S1x3x256_S3x256) h

def qx (x1 : Vec F S1x3x256 .f32) : FVec F S1x256 .f32 := qrow 0 x1 slices_S3x256_o0_0_S1x256
def qy (x1 : Vec F S1x3x256 .f32) : FVec F S1x256 .f32 := qrow 1 x1 slices_S3x256_o1_0_S1x256
def qz (x1 : Vec F S1x3x256 .f32) : FVec F S1x256 .f32 := qrow 2 x1 slices_S3x256_o2_0_S1x256

/-- The query points' squared lengths. -/
def q2 (x1 : Vec F S1x3x256 .f32) : FVec F S1x256 .f32 :=
  addf (addf (mulf (qx x1) (qx x1)) (mulf (qy x1) (qy x1))) (mulf (qz x1) (qz x1))

/-- The squared distances of the 512 points from place `o` on, by `q² − 2 p·q + p²`. -/
def slab (o : ℕ) (h1 : S8192x256.Slices ![o, 0] S512x256) (h2 : S8192x1.Slices ![o, 0] S512x1)
    (q : FVec F S1x256 .f32) (i : FVec F S8192x256 .f32) (p : FVec F S8192x1 .f32) : FVec F S512x256 .f32 :=
  addf (subf (broadcastTo S512x256 q broadcasts_S1x256_S512x256)
      (mulf (broadcast S512x256 (Scalar.ofBits .f32 0x40000000#32)) (extractStridedSlice S512x256 ![o, 0] i h1)))
    (broadcastTo S512x256 (extractStridedSlice S512x1 ![o, 0] p h2) broadcasts_S512x1_S512x256)

/-- The groups' minima: entry `r` is the smallest over the sixteen points `512 e + r`. -/
def groups (q : FVec F S1x256 .f32) (i : FVec F S8192x256 .f32) (p : FVec F S8192x1 .f32) : FVec F S512x256 .f32 :=
  minimumf (minimumf (minimumf (minimumf (minimumf (minimumf (minimumf (minimumf (minimumf (minimumf (minimumf (minimumf
    (minimumf (minimumf (minimumf
      (slab 0 slices_S8192x256_o0_0_S512x256 slices_S8192x1_o0_0_S512x1 q i p)
      (slab 512 slices_S8192x256_o512_0_S512x256 slices_S8192x1_o512_0_S512x1 q i p))
      (slab 1024 slices_S8192x256_o1024_0_S512x256 slices_S8192x1_o1024_0_S512x1 q i p))
      (slab 1536 slices_S8192x256_o1536_0_S512x256 slices_S8192x1_o1536_0_S512x1 q i p))
      (slab 2048 slices_S8192x256_o2048_0_S512x256 slices_S8192x1_o2048_0_S512x1 q i p))
      (slab 2560 slices_S8192x256_o2560_0_S512x256 slices_S8192x1_o2560_0_S512x1 q i p))
      (slab 3072 slices_S8192x256_o3072_0_S512x256 slices_S8192x1_o3072_0_S512x1 q i p))
      (slab 3584 slices_S8192x256_o3584_0_S512x256 slices_S8192x1_o3584_0_S512x1 q i p))
      (slab 4096 slices_S8192x256_o4096_0_S512x256 slices_S8192x1_o4096_0_S512x1 q i p))
      (slab 4608 slices_S8192x256_o4608_0_S512x256 slices_S8192x1_o4608_0_S512x1 q i p))
      (slab 5120 slices_S8192x256_o5120_0_S512x256 slices_S8192x1_o5120_0_S512x1 q i p))
      (slab 5632 slices_S8192x256_o5632_0_S512x256 slices_S8192x1_o5632_0_S512x1 q i p))
      (slab 6144 slices_S8192x256_o6144_0_S512x256 slices_S8192x1_o6144_0_S512x1 q i p))
      (slab 6656 slices_S8192x256_o6656_0_S512x256 slices_S8192x1_o6656_0_S512x1 q i p))
      (slab 7168 slices_S8192x256_o7168_0_S512x256 slices_S8192x1_o7168_0_S512x1 q i p))
      (slab 7680 slices_S8192x256_o7680_0_S512x256 slices_S8192x1_o7680_0_S512x1 q i p)

/-! ## The candidates -/

/-- A mark as a table of zeros and ones. -/
def flag (o : IVec S512x256 1) : FVec F S512x256 .bf16 :=
  truncf .bf16 (sitofp .f32 (extui 32 o natLt_1_32)) bitsLt_bf16_f32

/-- The marks of the sixteen rounds side by side. -/
def flags (g : FVec F S512x256 .f32) : FVec F S512x4096 .bf16 :=
  concatenate S512x4096 1 [⟨S512x256, flag (groupMark g 0)⟩, ⟨S512x256, flag (groupMark g 1)⟩,
    ⟨S512x256, flag (groupMark g 2)⟩, ⟨S512x256, flag (groupMark g 3)⟩, ⟨S512x256, flag (groupMark g 4)⟩,
    ⟨S512x256, flag (groupMark g 5)⟩, ⟨S512x256, flag (groupMark g 6)⟩, ⟨S512x256, flag (groupMark g 7)⟩,
    ⟨S512x256, flag (groupMark g 8)⟩, ⟨S512x256, flag (groupMark g 9)⟩, ⟨S512x256, flag (groupMark g 10)⟩,
    ⟨S512x256, flag (groupMark g 11)⟩, ⟨S512x256, flag (groupMark g 12)⟩, ⟨S512x256, flag (groupMark g 13)⟩,
    ⟨S512x256, flag (groupMark g 14)⟩, ⟨S512x256, flag (groupMark g 15)⟩]
    concatenates_S512x256_S512x256_S512x256_S512x256_S512x256_S512x256_S512x256_S512x256_S512x256_S512x256_S512x256_S512x256_S512x256_S512x256_S512x256_S512x256_S512x4096_d1

/-- The look-up: rows of the three parts of the coordinates, selected by a product with the marks. -/
def parts (x3 : Vec F S1x512x144 .bf16) (f : FVec F S512x4096 .bf16) : FVec F S144x4096 .f32 :=
  matmul dot_S512x144_S512x4096_S144x4096_0_0_1_1_n_n none (shapeCast S512x144 x3 shapeCasts_S1x512x144_S512x144)
    f (constant S144x4096 .f32 0x00000000#32)

/-- The three parts added up. -/
def coords (p : FVec F S144x4096 .f32) : FVec F S48x4096 .f32 :=
  addf (addf (extractStridedSlice S48x4096 ![96, 0] p slices_S144x4096_o96_0_S48x4096)
      (extractStridedSlice S48x4096 ![48, 0] p slices_S144x4096_o48_0_S48x4096))
    (extractStridedSlice S48x4096 ![0, 0] p slices_S144x4096_o0_0_S48x4096)

/-- The sixteen column blocks of sixteen rows, one below the other. -/
def stack (v : FVec F S16x4096 .f32) : FVec F S256x256 .f32 :=
  concatenate S256x256 0 [⟨S16x256, extractStridedSlice S16x256 ![0, 0] v slices_S16x4096_o0_0_S16x256⟩,
    ⟨S16x256, extractStridedSlice S16x256 ![0, 256] v slices_S16x4096_o0_256_S16x256⟩,
    ⟨S16x256, extractStridedSlice S16x256 ![0, 512] v slices_S16x4096_o0_512_S16x256⟩,
    ⟨S16x256, extractStridedSlice S16x256 ![0, 768] v slices_S16x4096_o0_768_S16x256⟩,
    ⟨S16x256, extractStridedSlice S16x256 ![0, 1024] v slices_S16x4096_o0_1024_S16x256⟩,
    ⟨S16x256, extractStridedSlice S16x256 ![0, 1280] v slices_S16x4096_o0_1280_S16x256⟩,
    ⟨S16x256, extractStridedSlice S16x256 ![0, 1536] v slices_S16x4096_o0_1536_S16x256⟩,
    ⟨S16x256, extractStridedSlice S16x256 ![0, 1792] v slices_S16x4096_o0_1792_S16x256⟩,
    ⟨S16x256, extractStridedSlice S16x256 ![0, 2048] v slices_S16x4096_o0_2048_S16x256⟩,
    ⟨S16x256, extractStridedSlice S16x256 ![0, 2304] v slices_S16x4096_o0_2304_S16x256⟩,
    ⟨S16x256, extractStridedSlice S16x256 ![0, 2560] v slices_S16x4096_o0_2560_S16x256⟩,
    ⟨S16x256, extractStridedSlice S16x256 ![0, 2816] v slices_S16x4096_o0_2816_S16x256⟩,
    ⟨S16x256, extractStridedSlice S16x256 ![0, 3072] v slices_S16x4096_o0_3072_S16x256⟩,
    ⟨S16x256, extractStridedSlice S16x256 ![0, 3328] v slices_S16x4096_o0_3328_S16x256⟩,
    ⟨S16x256, extractStridedSlice S16x256 ![0, 3584] v slices_S16x4096_o0_3584_S16x256⟩,
    ⟨S16x256, extractStridedSlice S16x256 ![0, 3840] v slices_S16x4096_o0_3840_S16x256⟩]
    concatenates_S16x256_S16x256_S16x256_S16x256_S16x256_S16x256_S16x256_S16x256_S16x256_S16x256_S16x256_S16x256_S16x256_S16x256_S16x256_S16x256_S256x256_d0

/-- The candidates' three coordinates. -/
def candX (c : FVec F S48x4096 .f32) : FVec F S256x256 .f32 :=
  stack (extractStridedSlice S16x4096 ![0, 0] c slices_S48x4096_o0_0_S16x4096)
def candY (c : FVec F S48x4096 .f32) : FVec F S256x256 .f32 :=
  stack (extractStridedSlice S16x4096 ![16, 0] c slices_S48x4096_o16_0_S16x4096)
def candZ (c : FVec F S48x4096 .f32) : FVec F S256x256 .f32 :=
  stack (extractStridedSlice S16x4096 ![32, 0] c slices_S48x4096_o32_0_S16x4096)

/-! ## The second pass and the weights -/

/-- A row rounded and widened, over all rows. -/
def roundedRow (q : FVec F S1x256 .f32) : FVec F S256x256 .f32 :=
  broadcastTo S256x256 (extf .f32 (truncf .bf16 q bitsLt_bf16_f32) bitsLt_bf16_f32) broadcasts_S1x256_S256x256

/-- A table rounded and widened. -/
def rounded (x : FVec F S256x256 .f32) : FVec F S256x256 .f32 :=
  extf .f32 (truncf .bf16 x bitsLt_bf16_f32) bitsLt_bf16_f32

/-- The candidates' squared distances by `q² − 2 p·q + p²`. -/
def candDist (a b c s : FVec F S1x256 .f32) (x y z : FVec F S256x256 .f32) : FVec F S256x256 .f32 :=
  addf (subf (broadcastTo S256x256 s broadcasts_S1x256_S256x256)
      (mulf (broadcast S256x256 (Scalar.ofBits .f32 0x40000000#32))
        (addf (addf (mulf (roundedRow a) (rounded x)) (mulf (roundedRow b) (rounded y))) (mulf (roundedRow c) (rounded z)))))
    (addf (addf (mulf x x) (mulf y y)) (mulf z z))

/-- The difference of the candidates' coordinate and the query points'. -/
def diff (x : FVec F S256x256 .f32) (a : FVec F S1x256 .f32) : FVec F S256x256 .f32 :=
  subf x (broadcastTo S256x256 a broadcasts_S1x256_S256x256)

/-- The candidates' squared distances by differences. -/
def euclid (a b c : FVec F S1x256 .f32) (x y z : FVec F S256x256 .f32) : FVec F S256x256 .f32 :=
  addf (addf (mulf (diff x a) (diff x a)) (mulf (diff y b) (diff y b))) (mulf (diff z c) (diff z c))

/-- The weights: `exp ((dmin − d) · inv)` at the chosen candidates, zero elsewhere. -/
def weight (inv : F .f32) (sel : IVec S256x256 1) (ed : FVec F S256x256 .f32) : FVec F S256x256 .f32 :=
  select sel (exp (mulf (subf (broadcastTo S256x256 (shapeCast S1x256 (multiReduction .minimumf [0] S256
      (select sel ed (broadcast S256x256 (Named.named Cert.KernelIdeal.κ "big" 0x7F61B1E6#32))) 0x7F800000#32
      reduces_S256x256_S256 (.inl rfl) rfl) shapeCasts_S256_S1x256) broadcasts_S1x256_S256x256) ed)
      (broadcast S256x256 inv)))
    (broadcast S256x256 (Scalar.ofBits .f32 0x00000000#32))

/-- A column sum. -/
def colSum (v : FVec F S256x256 .f32) : FVec F S1x256 .f32 :=
  shapeCast S1x256 (multiReduction .add [0] S256 v 0x00000000#32 reduces_S256x256_S256 (.inl rfl) rfl) shapeCasts_S256_S1x256

/-- The weighted mean of a table. -/
def mean (w x : FVec F S256x256 .f32) : FVec F S1x256 .f32 := divf (colSum (mulf w x)) (colSum w)

/-- The reciprocal of the word plus the small constant. -/
def recip (s : F .f32) : F .f32 :=
  Scalar.divf (Scalar.ofBits .f32 0x3F800000#32) (Scalar.addf s (Scalar.ofBits .f32 0x322BCC77#32))

/-- From the candidates' coordinates to the block that the body stores. -/
def finish (inv : F .f32) (a b c s : FVec F S1x256 .f32) (x y z : FVec F S256x256 .f32) : FVec F S1x3x256 .f32 :=
  let w := weight inv (chosen (candDist a b c s x y z)) (euclid a b c x y z)
  shapeCast S1x3x256 (concatenate S3x256 0 [⟨S1x256, mean w x⟩, ⟨S1x256, mean w y⟩, ⟨S1x256, mean w z⟩]
    concatenates_S1x256_S1x256_S1x256_S3x256_d0) shapeCasts_S3x256_S1x3x256

/-- The groups' minima from the input blocks. -/
def groupsOf (x0 : Vec F S1x3x8192 .f32) (x1 : Vec F S1x3x256 .f32) (x2 : Vec F S1x8192x1 .f32) : FVec F S512x256 .f32 :=
  groups (q2 x1) (inner x0 x1) (shapeCast S8192x1 x2 shapeCasts_S1x8192x1_S8192x1)

/-- The candidates' coordinates from the groups' minima. -/
def coordsOf (x3 : Vec F S1x512x144 .bf16) (g : FVec F S512x256 .f32) : FVec F S48x4096 .f32 := coords (parts x3 (flags g))

/-- The block that the body stores, as a function of its input blocks and the word. -/
def block (x0 : Vec F S1x3x8192 .f32) (x1 : Vec F S1x3x256 .f32) (x2 : Vec F S1x8192x1 .f32) (x3 : Vec F S1x512x144 .bf16)
    (s : F .f32) : FVec F S1x3x256 .f32 :=
  finish (recip s) (qx x1) (qy x1) (qz x1) (q2 x1) (candX (coordsOf x3 (groupsOf x0 x1 x2)))
    (candY (coordsOf x3 (groupsOf x0 x1 x2))) (candZ (coordsOf x3 (groupsOf x0 x1 x2)))

end Cert.Proof.Body
-- ==== Proof.BodyRun.lean ====
/- The body's run leaves `Body.block` of its input blocks in the output's staging buffer. -/
module

public import proofs.«01_k».proof.Proof.Gen.KernelIdeal.Value
public import proofs.«01_k».proof.Proof.Body
public import Idealize.ShloMosaic.Lib.Pointwise

@[expose] public section

set_option maxRecDepth 16384

noncomputable section

namespace Cert.Proof.BodyRun

open Cert.KernelIdeal Cert.KernelIdeal.Gen Cert.KernelIdeal.Value Idealize.ShloMosaic Idealize.ShloMosaic.Tactic
open Idealize.ShloMosaic.TcCoe Idealize.SL.Sem

variable {F : FTy → Type} [FloatOps F] [Named F]

theorem hz3 : (![0, 0, 0] : Fin 3 → Nat) = fun _ => 0 := funext fun a => by fin_cases a <;> rfl

/-- The body's pieces are one: the whole block, from loads of the whole input blocks and of the word. -/
theorem pieces_eq (c : Dev nD) (i : grid0.Coords) (arg2 : Memref sig .tc .vmem S1x3x8192 .f32) (h2 : arg2.IsWhole)
    (arg3 : Memref sig .tc .vmem S1x3x256 .f32) (h3 : arg3.IsWhole) (arg4 : Memref sig .tc .vmem S1x8192x1 .f32)
    (h4 : arg4.IsWhole) (arg5 : Memref sig .tc .vmem S1x512x144 .bf16) (h5 : arg5.IsWhole)
    (arg6 : Memref sig .tc .smem S1x1 .f32) (h6 : arg6.IsWhole) (arg7 : Memref sig .tc .vmem S1x3x256 .f32)
    (h7 : arg7.IsWhole) (x0 : Vec F S1x3x8192 .f32) (x1 : Vec F S1x3x256 .f32) (x2 : Vec F S1x8192x1 .f32)
    (x3 : Vec F S1x512x144 .bf16) (x4 : Vec F S1x1 .f32) :
    (kernelRun0_A c i arg2 h2 arg3 h3 arg4 h4 arg5 h5 arg6 h6 arg7 h7 x0 x1 x2 x3 x4).1 =
      [⟨Rect.unit ![0, 0, 0] S1x3x256.size inb_S1x3x256_S1x3x256_0_0_0,
        Body.block
          (View.readAt (Elt F) arg2.view (Rect.unit ![0, 0, 0] S1x3x8192.size inb_S1x3x8192_S1x3x8192_0_0_0).toLoadRect
            (h2.unread x0))
          (View.readAt (Elt F) arg3.view (Rect.unit ![0, 0, 0] S1x3x256.size inb_S1x3x256_S1x3x256_0_0_0).toLoadRect
            (h3.unread x1))
          (View.readAt (Elt F) arg4.view (Rect.unit ![0, 0, 0] S1x8192x1.size inb_S1x8192x1_S1x8192x1_0_0_0).toLoadRect
            (h4.unread x2))
          (View.readAt (Elt F) arg5.view (Rect.unit ![0, 0, 0] S1x512x144.size inb_S1x512x144_S1x512x144_0_0_0).toLoadRect
            (h5.unread x3))
          (View.readAt (Elt F) arg6.view (Rect.unit ![0, 0] S1x1.size inb_S1x1_S1x1_0_0).toLoadRect
            (h6.unread x4) (Shape.Idx.first (numel1_S1x1.symm ▸ Nat.one_pos)))⟩] := by
  sl_kernel_rfl

/-- What the run leaves in the output's staging buffer is `Body.block` of the input buffers' contents. -/
theorem out_eq (c : Dev nD) (i : grid0.Coords) (arg2 : Memref sig .tc .vmem S1x3x8192 .f32) (h2 : arg2.IsWhole)
    (arg3 : Memref sig .tc .vmem S1x3x256 .f32) (h3 : arg3.IsWhole) (arg4 : Memref sig .tc .vmem S1x8192x1 .f32)
    (h4 : arg4.IsWhole) (arg5 : Memref sig .tc .vmem S1x512x144 .bf16) (h5 : arg5.IsWhole)
    (arg6 : Memref sig .tc .smem S1x1 .f32) (h6 : arg6.IsWhole) (arg7 : Memref sig .tc .vmem S1x3x256 .f32)
    (h7 : arg7.IsWhole) (x0 : Vec F S1x3x8192 .f32) (x1 : Vec F S1x3x256 .f32) (x2 : Vec F S1x8192x1 .f32)
    (x3 : Vec F S1x512x144 .bf16) (x4 : Vec F S1x1 .f32) :
    out0_A_5 c i arg2 h2 arg3 h3 arg4 h4 arg5 h5 arg6 h6 arg7 h7 x0 x1 x2 x3 x4 = Body.block x0 x1 x2 x3 (x4 (ix2 0 0)) := by
  unfold out0_A_5
  rw [View.read_writes_junk_eq_canon, pieces_eq, View.canon_unit_zero hz3, View.readAt_eq_ld, View.readAt_eq_ld,
    View.readAt_eq_ld, View.readAt_eq_ld, View.readAt_eq_ld, h2.read_unread, h3.read_unread, h4.read_unread,
    h5.read_unread, h6.read_unread, View.ld_unit_zero hz3, View.ld_unit_zero hz3, View.ld_unit_zero hz3,
    View.ld_unit_zero hz3]
  refine congrArg (Body.block x0 x1 x2 x3) (congrArg x4 (funext fun a => ?_))
  match a with
  | ⟨0, _⟩ => exact Subsingleton.elim (α := Fin 1) _ _
  | ⟨1, _⟩ => exact Subsingleton.elim (α := Fin 1) _ _

end Cert.Proof.BodyRun
-- ==== Proof.Entry.lean ====
/- What the host operations before the kernel's region leave in the three arrays they prepare: the points' squared lengths,
   the bandwidth's word, and the packed table of the points' coordinates, each coordinate cut in three parts. Where a
   coordinate is finite its three parts add up to it. -/
module

public import proofs.«01_k».proof.Proof.Gen.KernelIdeal.Value
public import Idealize.ShloMosaic.Lib.Pointwise
public import Idealize.ShloMosaic.Lib.Claim
public import Idealize.ShloMosaic.Lib.Pipeline.Value

@[expose] public section

set_option maxRecDepth 16384

noncomputable section

namespace Cert.Proof.Entry

open Cert.KernelIdeal Cert.KernelIdeal.Gen Idealize.ShloMosaic Idealize.ShloMosaic.Tactic
open Idealize.ShloMosaic.TcCoe Idealize.SL.Sem

section Terms

variable {F : FTy → Type} [FloatOps F]

/-- Coordinate `a` of all points. -/
def row (a : ℕ) (x : Vec F S4x3x8192 .f32) (h : S4x3x8192.Slices ![0, a, 0] S4x1x8192) : FVec F S4x8192 .f32 :=
  shapeCast S4x8192 (extractStridedSlice S4x1x8192 ![0, a, 0] x h) shapeCasts_S4x1x8192_S4x8192

/-- What is left of a table after its rounding is subtracted. -/
def rest (v : FVec F S4x8192 .f32) : FVec F S4x8192 .f32 :=
  subf v (extf .f32 (truncf .bf16 v bitsLt_bf16_f32) bitsLt_bf16_f32)

/-- A rounded table with the points regrouped: entry `(r, e)` is point `512 e + r`. -/
def regroup (v : FVec F S4x8192 .f32) : FVec F S4x512x16 .bf16 :=
  truncf .bf16 (transpose S4x512x16 [0, 2, 1] (shapeCast S4x16x512
    (extf .f32 (truncf .bf16 v bitsLt_bf16_f32) bitsLt_bf16_f32) shapeCasts_S4x8192_S4x16x512)
    transposes_S4x16x512_S4x512x16_0_2_1) bitsLt_bf16_f32

/-- The three coordinates' tables. -/
def rows (x : Vec F S4x3x8192 .f32) : Fin 3 → FVec F S4x8192 .f32
  | 0 => row 0 x slices_S4x3x8192_S4x1x8192_0_0_0
  | 1 => row 1 x slices_S4x3x8192_S4x1x8192_0_1_0
  | 2 => row 2 x slices_S4x3x8192_S4x1x8192_0_2_0

/-- The packed table: the three coordinates' first parts, then their second, then their third. -/
def packed (x : Vec F S4x3x8192 .f32) : FVec F S4x512x144 .bf16 :=
  concatenate S4x512x144 2 [⟨S4x512x16, regroup (rows x 0)⟩, ⟨S4x512x16, regroup (rows x 1)⟩, ⟨S4x512x16, regroup (rows x 2)⟩,
    ⟨S4x512x16, regroup (rest (rows x 0))⟩, ⟨S4x512x16, regroup (rest (rows x 1))⟩, ⟨S4x512x16, regroup (rest (rows x 2))⟩,
    ⟨S4x512x16, regroup (rest (rest (rows x 0)))⟩, ⟨S4x512x16, regroup (rest (rest (rows x 1)))⟩,
    ⟨S4x512x16, regroup (rest (rest (rows x 2)))⟩]
    concatenates_S4x512x16_S4x512x16_S4x512x16_S4x512x16_S4x512x16_S4x512x16_S4x512x16_S4x512x16_S4x512x16_S4x512x144_d2

/-- The points' squared lengths, one column per batch. -/
def lengths (x : Vec F S4x3x8192 .f32) : FVec F S4x8192x1 .f32 :=
  broadcastInDim S4x8192x1 ![0, 1] bcast_S4x8192_S4x8192x1_0_1
    (Host.reduceAdd (mulf x x) (constant S_ .f32 0#32) reducesTo_S4x3x8192_S4x8192_d1 h_S_)

/-- The bandwidth: the temperature squared, kept away from zero. -/
def sigma (t : Vec F S_ .f32) : FVec F S1x1 .f32 :=
  shapeCast S1x1 (maximumf (mulf t t) (constant S_ .f32 0x38D1B717#32)) shapeCasts_S_S1x1

end Terms

section Contents

variable {F : FTy → Type} [FloatOps F] [Named F] (m : (ℓ : Loc nD τ sig) → Buf (Elt F) ℓ) (c : Dev nD)

/-- The points, as the launch finds them. -/
abbrev points : Vec F S4x3x8192 .f32 := m ((c : Thread nD τ).loc main_arg0)

/-- The queries, as the launch finds them. -/
abbrev queries : Vec F S4x3x2048 .f32 := m ((c : Thread nD τ).loc main_arg1)

/-- The temperature, as the launch finds it. -/
abbrev temperature : Vec F S_ .f32 := m ((c : Thread nD τ).loc main_arg2)

/-- The packed table at the region's entry. -/
theorem packed_eq : V m c main_v69 = packed (points m c) := by sl_kernel_rfl

/-- The points' squared lengths at the region's entry. -/
theorem lengths_eq : V m c main_v5 = lengths (points m c) := by sl_kernel_rfl

/-- The bandwidth's word at the region's entry. -/
theorem sigma_eq : V m c main_v2 = sigma (temperature m c) := by sl_kernel_rfl

end Contents

/-- A point's squared length. -/
theorem lengths_apply (x : Vec Ideal S4x3x8192 .f32) (b : Fin 4) (n : Fin 8192) :
    lengths x (ix3 b n 0) = ∑ a : Fin 3, (x (ix3 b a n) * x (ix3 b a n) : EReal) := by
  pointwise [lengths]

/-- The bandwidth's word. -/
theorem sigma_apply (t : Vec Ideal S_ .f32) :
    sigma t (ix2 0 0) = (max (t ix0 * t ix0) (Ideal.ofBits .f32 0x38D1B717#32) : EReal) := by
  pointwise [sigma]

theorem row_apply (a : Fin 3) (x : Vec Ideal S4x3x8192 .f32) (b : Fin 4) (n : Fin 8192) : rows x a (ix2 b n) = x (ix3 b a n) := by
  match a with
  | 0 => pointwise [rows, row]
  | 1 => pointwise [rows, row]
  | 2 => pointwise [rows, row]

theorem rest_apply (v : FVec Ideal S4x8192 .f32) (b : Fin 4) (n : Fin 8192) :
    rest v (ix2 b n) = (v (ix2 b n) - v (ix2 b n) : EReal) := by
  pointwise [rest]

theorem regroup_apply (v : FVec Ideal S4x8192 .f32) (b : Fin 4) (r : Fin 512) (e : Fin 16) :
    regroup v (ix3 b r e) = v (ix2 b ⟨512 * e + r, by omega⟩) := by
  pointwise [regroup]
  congr 3
  omega

/-- The packed table's entry: part `t` of coordinate `a` of point `512 e + r`. -/
theorem packed_apply (x : Vec Ideal S4x3x8192 .f32) (b : Fin 4) (r : Fin 512) (t a : Fin 3) (e : Fin 16) :
    packed x (ix3 b r ⟨48 * t + (16 * a + e), by omega⟩) = (rest^[t] (rows x a)) (ix2 b ⟨512 * e + r, by omega⟩) := by
  rw [← regroup_apply (rest^[t] (rows x a))]
  show concatenate S4x512x144 2 (List.ofFn fun n : Fin 9 => (⟨S4x512x16, regroup (rest^[(n : ℕ) / 3]
    (rows x ⟨(n : ℕ) % 3, Nat.mod_lt _ (by omega)⟩))⟩ : (s : Shape) × (s.Idx → _))) _ _ = _
  refine (concatenate_ofFn_apply (t := S4x512x144) (s₁ := S4x512x16) 2 _ _ rfl 16 rfl _ ⟨3 * t + a, by omega⟩ ?_
    (ix3 b r e) ?_ ?_).trans ?_
  · show (48 * (t : ℕ) + (16 * a + e)) / 16 = 3 * t + a; omega
  · show (e : ℕ) = (48 * (t : ℕ) + (16 * a + e)) % 16; omega
  · intro k hk
    match k with
    | ⟨0, _⟩ => rfl
    | ⟨1, _⟩ => rfl
    | ⟨2, _⟩ => exact absurd rfl hk
  · have h3 : (3 * (t : ℕ) + a) / 3 = t := by omega
    have hm : (⟨(3 * (t : ℕ) + a) % 3, Nat.mod_lt _ (by omega)⟩ : Fin 3) = a := Fin.ext (by show (3 * (t : ℕ) + a) % 3 = a; omega)
    show regroup (rest^[(3 * (t : ℕ) + a) / 3] (rows x ⟨(3 * (t : ℕ) + a) % 3, _⟩)) (ix3 b r e) = _
    rw [h3, hm]

/-- Where a coordinate is finite its three parts, third and second first, add up to it. -/
theorem parts_sum (x : Vec Ideal S4x3x8192 .f32) (b : Fin 4) (r : Fin 512) (a : Fin 3) (e : Fin 16)
    (y : ℝ) (h : x (ix3 b a ⟨512 * e + r, by omega⟩) = (y : EReal)) :
    packed x (ix3 b r ⟨48 * 2 + (16 * a + e), by omega⟩) + packed x (ix3 b r ⟨48 * 1 + (16 * a + e), by omega⟩)
      + packed x (ix3 b r ⟨48 * 0 + (16 * a + e), by omega⟩) = (y : EReal) := by
  rw [show packed x (ix3 b r ⟨48 * 2 + (16 * a + e), by omega⟩) = _ from packed_apply x b r 2 a e,
    show packed x (ix3 b r ⟨48 * 1 + (16 * a + e), by omega⟩) = _ from packed_apply x b r 1 a e,
    show packed x (ix3 b r ⟨48 * 0 + (16 * a + e), by omega⟩) = _ from packed_apply x b r 0 a e]
  show rest (rest (rows x a)) _ + rest (rows x a) _ + rows x a _ = _
  rw [rest_apply, rest_apply, row_apply, h, ← EReal.coe_sub, sub_self, ← EReal.coe_sub, sub_self, EReal.coe_zero,
    zero_add, zero_add]

end Cert.Proof.Entry
-- ==== Proof.Array.lean ====
/- The result array after the run: its part at batch `b` and block `k` of queries is the kernel body's block of the
   arrays' parts at that grid point. -/
module

public import proofs.«01_k».proof.Proof.BodyRun
public import proofs.«01_k».proof.Proof.Entry

@[expose] public section

set_option maxRecDepth 16384

noncomputable section

namespace Cert.Proof.Array

open Cert.KernelIdeal Cert.KernelIdeal.Gen Cert.KernelIdeal.Value Idealize.ShloMosaic
open Idealize.ShloMosaic.TcCoe Idealize.SL.Sem

/-- Each window's block index at a grid point: the batch, and for the queries and the result the block of queries. -/
theorem idx0 : ∀ t : Fin cfg0.N, win0_0.index t (0 : Fin 3) = (t : ℕ) / 8 ∧ win0_0.index t (1 : Fin 3) = 0 ∧
    win0_0.index t (2 : Fin 3) = 0 := (by decide +kernel : ∀ t : Fin grid0.N, _)
theorem idx1 : ∀ t : Fin cfg0.N, win0_1.index t (0 : Fin 3) = (t : ℕ) / 8 ∧ win0_1.index t (1 : Fin 3) = 0 ∧
    win0_1.index t (2 : Fin 3) = (t : ℕ) % 8 := (by decide +kernel : ∀ t : Fin grid0.N, _)
theorem idx2 : ∀ t : Fin cfg0.N, win0_2.index t (0 : Fin 3) = (t : ℕ) / 8 ∧ win0_2.index t (1 : Fin 3) = 0 ∧
    win0_2.index t (2 : Fin 3) = 0 := (by decide +kernel : ∀ t : Fin grid0.N, _)
theorem idx3 : ∀ t : Fin cfg0.N, win0_3.index t (0 : Fin 3) = (t : ℕ) / 8 ∧ win0_3.index t (1 : Fin 3) = 0 ∧
    win0_3.index t (2 : Fin 3) = 0 := (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = (t : ℕ) / 8 ∧ win0_5.index t (1 : Fin 3) = 0 ∧
    win0_5.index t (2 : Fin 3) = (t : ℕ) % 8 := (by decide +kernel : ∀ t : Fin grid0.N, _)

section Blocks

variable {F : FTy → Type} [FloatOps F] [Named F] (m : (ℓ : Loc nD τ sig) → Buf (Elt F) ℓ) (c : Dev nD)

/-- The grid point of batch `b` and block `k` of queries. -/
def at32 (b : Fin 4) (k : Fin 8) : Fin cfg0.N := ⟨8 * b + k, by show 8 * (b : ℕ) + k < 32; omega⟩

theorem at32_div (b : Fin 4) (k : Fin 8) : (at32 b k : ℕ) / 8 = b := by show (8 * (b : ℕ) + k) / 8 = b; omega
theorem at32_mod (b : Fin 4) (k : Fin 8) : (at32 b k : ℕ) % 8 = k := by show (8 * (b : ℕ) + k) % 8 = k; omega

/-- Query `j` of block `k`. -/
def query (k : Fin 8) (j : Fin 256) : Fin 2048 := ⟨256 * k + j, by omega⟩

theorem emb0 (b : Fin 4) (k : Fin 8) (a : Fin 3) (n : Fin 8192) :
    ((cfg0.win 0).blk (at32 b k)).view.emb (ix3 0 a n) = ix3 b a n := by
  obtain ⟨e0, e1, e2⟩ := idx0 (at32 b k)
  rw [at32_div] at e0
  funext x; apply Fin.ext
  match x with
  | ⟨0, _⟩ => show win0_0.index (at32 b k) (0 : Fin 3) * 1 + 1 * 0 = (b : ℕ); omega
  | ⟨1, _⟩ => show win0_0.index (at32 b k) (1 : Fin 3) * 3 + 1 * (a : ℕ) = a; omega
  | ⟨2, _⟩ => show win0_0.index (at32 b k) (2 : Fin 3) * 8192 + 1 * (n : ℕ) = n; omega

theorem emb1 (b : Fin 4) (k : Fin 8) (a : Fin 3) (j : Fin 256) :
    ((cfg0.win 1).blk (at32 b k)).view.emb (ix3 0 a j) = ix3 b a (query k j) := by
  obtain ⟨e0, e1, e2⟩ := idx1 (at32 b k)
  rw [at32_div] at e0
  rw [at32_mod] at e2
  funext x; apply Fin.ext
  match x with
  | ⟨0, _⟩ => show win0_1.index (at32 b k) (0 : Fin 3) * 1 + 1 * 0 = (b : ℕ); omega
  | ⟨1, _⟩ => show win0_1.index (at32 b k) (1 : Fin 3) * 3 + 1 * (a : ℕ) = a; omega
  | ⟨2, _⟩ => show win0_1.index (at32 b k) (2 : Fin 3) * 256 + 1 * (j : ℕ) = 256 * k + j; omega

theorem emb2 (b : Fin 4) (k : Fin 8) (n : Fin 8192) :
    ((cfg0.win 2).blk (at32 b k)).view.emb (ix3 0 n 0) = ix3 b n 0 := by
  obtain ⟨e0, e1, e2⟩ := idx2 (at32 b k)
  rw [at32_div] at e0
  funext x; apply Fin.ext
  match x with
  | ⟨0, _⟩ => show win0_2.index (at32 b k) (0 : Fin 3) * 1 + 1 * 0 = (b : ℕ); omega
  | ⟨1, _⟩ => show win0_2.index (at32 b k) (1 : Fin 3) * 8192 + 1 * (n : ℕ) = n; omega
  | ⟨2, _⟩ => show win0_2.index (at32 b k) (2 : Fin 3) * 1 + 1 * 0 = 0; omega

theorem emb3 (b : Fin 4) (k : Fin 8) (r : Fin 512) (i : Fin 144) :
    ((cfg0.win 3).blk (at32 b k)).view.emb (ix3 0 r i) = ix3 b r i := by
  obtain ⟨e0, e1, e2⟩ := idx3 (at32 b k)
  rw [at32_div] at e0
  funext x; apply Fin.ext
  match x with
  | ⟨0, _⟩ => show win0_3.index (at32 b k) (0 : Fin 3) * 1 + 1 * 0 = (b : ℕ); omega
  | ⟨1, _⟩ => show win0_3.index (at32 b k) (1 : Fin 3) * 512 + 1 * (r : ℕ) = r; omega
  | ⟨2, _⟩ => show win0_3.index (at32 b k) (2 : Fin 3) * 144 + 1 * (i : ℕ) = i; omega

theorem emb4 (t : Fin cfg0.N) : ((cfg0.win 4).blk t).view.emb (ix2 0 0) = ix2 0 0 := by
  obtain ⟨e0, e1⟩ := idx4 t
  funext x; apply Fin.ext
  match x with
  | ⟨0, _⟩ => show win0_4.index t (0 : Fin 2) * 1 + 1 * 0 = 0; omega
  | ⟨1, _⟩ => show win0_4.index t (1 : Fin 2) * 1 + 1 * 0 = 0; omega

theorem emb5 (b : Fin 4) (k : Fin 8) (a : Fin 3) (j : Fin 256) :
    ((cfg0.win 5).blk (at32 b k)).view.emb (ix3 0 a j) = ix3 b a (query k j) := by
  obtain ⟨e0, e1, e2⟩ := idx5 (at32 b k)
  rw [at32_div] at e0
  rw [at32_mod] at e2
  funext x; apply Fin.ext
  match x with
  | ⟨0, _⟩ => show win0_5.index (at32 b k) (0 : Fin 3) * 1 + 1 * 0 = (b : ℕ); omega
  | ⟨1, _⟩ => show win0_5.index (at32 b k) (1 : Fin 3) * 3 + 1 * (a : ℕ) = a; omega
  | ⟨2, _⟩ => show win0_5.index (at32 b k) (2 : Fin 3) * 256 + 1 * (j : ℕ) = 256 * k + j; omega

/-- The points' block at batch `b`. -/
theorem read0 (b : Fin 4) (k : Fin 8) (a : Fin 3) (n : Fin 8192) :
    iblk m c 0 (at32 b k) (ix3 0 a n) = Entry.points m c (ix3 b a n) := by
  show V m c main_arg0 (((cfg0.win 0).blk (at32 b k)).view.emb (ix3 0 a n)) = _
  rw [emb0, V_main_arg0]

/-- The queries' block. -/
theorem read1 (b : Fin 4) (k : Fin 8) (a : Fin 3) (j : Fin 256) :
    iblk m c 1 (at32 b k) (ix3 0 a j) = Entry.queries m c (ix3 b a (query k j)) := by
  show V m c main_arg1 (((cfg0.win 1).blk (at32 b k)).view.emb (ix3 0 a j)) = _
  rw [emb1, V_main_arg1]

/-- The squared lengths' block. -/
theorem read2 (b : Fin 4) (k : Fin 8) (n : Fin 8192) :
    iblk m c 2 (at32 b k) (ix3 0 n 0) = Entry.lengths (Entry.points m c) (ix3 b n 0) := by
  show V m c main_v5 (((cfg0.win 2).blk (at32 b k)).view.emb (ix3 0 n 0)) = _
  rw [emb2, Entry.lengths_eq]

/-- The packed table's block. -/
theorem read3 (b : Fin 4) (k : Fin 8) (r : Fin 512) (i : Fin 144) :
    iblk m c 3 (at32 b k) (ix3 0 r i) = Entry.packed (Entry.points m c) (ix3 b r i) := by
  show V m c main_v69 (((cfg0.win 3).blk (at32 b k)).view.emb (ix3 0 r i)) = _
  rw [emb3, Entry.packed_eq]

/-- The bandwidth's word. -/
theorem read4 (t : Fin cfg0.N) : iblk m c 4 t (ix2 0 0) = Entry.sigma (Entry.temperature m c) (ix2 0 0) := by
  show V m c main_v2 (((cfg0.win 4).blk t).view.emb (ix2 0 0)) = _
  rw [emb4, Entry.sigma_eq]

/-- The result array at a batch, a coordinate and a query: the body's block of that grid point's blocks. -/
theorem arr_eq (b : Fin 4) (k : Fin 8) (a : Fin 3) (j : Fin 256) :
    (dats m 0 c).arrAt 5 cfg0.N (ix3 b a (query k j)) =
      Body.block (iblk m c 0 (at32 b k)) (iblk m c 1 (at32 b k)) (iblk m c 2 (at32 b k)) (iblk m c 3 (at32 b k))
        (iblk m c 4 (at32 b k) (ix2 0 0)) (ix3 0 a j) := by
  rw [← emb5 b k a j]
  refine (congrFun (blocks5 m c (at32 b k) (flush0_5 _)) (ix3 0 a j)).trans ?_
  rw [flushed5_A, BodyRun.out_eq]
  rfl

end Blocks

end Cert.Proof.Array
-- ==== Proof.Extract.lean ====
/- Repeated extraction of the smallest entry, on a plain column `v : Fin n → EReal`; no program is mentioned.
   A ROUND finds the first position at which the column is smallest and overwrites it by `⊤`. The theorems say that
   `k` rounds on a column of finite entries find `k` different positions, and that no entry outside them is smaller
   than an entry among them; so where a set of `k` entries lies strictly below all others, the rounds find that set. -/
module

public import Mathlib.Data.EReal.Basic
public import Mathlib.Data.Fintype.Card
public import Mathlib.Data.Finset.Card
public import Mathlib.Order.Fin.Basic
public import Mathlib.Data.Finset.Max

@[expose] public section

noncomputable section

namespace Cert.Proof.Extract

/-- Position `r` is the first at which the column is smallest. -/
def IsFirstMin {n : ℕ} (v : Fin n → EReal) (r : Fin n) : Prop := (∀ s, v r ≤ v s) ∧ ∀ s, s < r → v r < v s

/-- There is such a position in a column that has one. -/
theorem exists_isFirstMin {n : ℕ} [NeZero n] (v : Fin n → EReal) : ∃ r, IsFirstMin v r := by
  obtain ⟨a, -, ha⟩ := Finset.exists_min_image (Finset.univ : Finset (Fin n)) v ⟨0, Finset.mem_univ _⟩
  obtain ⟨r, hr, hmin⟩ := Finset.exists_min_image (Finset.univ.filter fun r => v r = v a) id ⟨a, by simp⟩
  simp only [Finset.mem_filter, Finset.mem_univ, true_and, id] at hr hmin
  refine ⟨r, fun s => hr ▸ ha s (Finset.mem_univ s), fun s hs => lt_of_le_of_ne (hr ▸ ha s (Finset.mem_univ s)) fun h => ?_⟩
  exact absurd (hmin s (h.symm.trans hr)) (not_le.mpr hs)

/-- and only one. -/
theorem IsFirstMin.unique {n : ℕ} {v : Fin n → EReal} {r s : Fin n} (hr : IsFirstMin v r) (hs : IsFirstMin v s) : r = s := by
  rcases lt_trichotomy r s with h | h | h
  · exact absurd (hs.2 r h) (not_lt.mpr (hr.1 s))
  · exact h
  · exact absurd (hr.2 s h) (not_lt.mpr (hs.1 r))

variable {n : ℕ} [NeZero n]

/-- The first position at which the column is smallest. -/
def firstMin (v : Fin n → EReal) : Fin n := (exists_isFirstMin v).choose

theorem firstMin_spec (v : Fin n → EReal) : IsFirstMin v (firstMin v) := (exists_isFirstMin v).choose_spec

theorem eq_firstMin_iff (v : Fin n → EReal) (r : Fin n) : r = firstMin v ↔ IsFirstMin v r :=
  ⟨fun h => h ▸ firstMin_spec v, fun h => h.unique (firstMin_spec v)⟩

/-- The column after one round: its first smallest entry overwritten by `⊤`. -/
def next (v : Fin n → EReal) : Fin n → EReal := Function.update v (firstMin v) ⊤

/-- The column after `k` rounds. -/
def rounds (v : Fin n → EReal) : ℕ → Fin n → EReal
  | 0 => v
  | k + 1 => next (rounds v k)

/-- The position that round `k` finds (the first round is round 0). -/
def pick (v : Fin n → EReal) (k : ℕ) : Fin n := firstMin (rounds v k)

/-- The positions found in the first `k` rounds. -/
def picked (v : Fin n → EReal) (k : ℕ) : Finset (Fin n) := (Finset.range k).image (pick v)

theorem picked_succ (v : Fin n → EReal) (k : ℕ) : picked v (k + 1) = insert (pick v k) (picked v k) := by
  unfold picked; rw [Finset.range_add_one, Finset.image_insert]

/-- After `k` rounds the found positions hold `⊤` and the others their own entry. -/
theorem rounds_apply (v : Fin n → EReal) (k : ℕ) (r : Fin n) : rounds v k r = if r ∈ picked v k then ⊤ else v r := by
  induction k with
  | zero => simp [picked, rounds]
  | succ k ih =>
    rw [picked_succ]
    show Function.update (rounds v k) (pick v k) ⊤ r = _
    by_cases h : r = pick v k
    · subst h; simp
    · rw [Function.update_of_ne h, ih]; simp [h]

/-- A round on a column with finite entries finds a position not found before. -/
theorem pick_notMem (v : Fin n → EReal) (hv : ∀ r, v r < ⊤) {k : ℕ} (hk : k < n) : pick v k ∉ picked v k := by
  have hc : (picked v k).card < Fintype.card (Fin n) := by
    rw [Fintype.card_fin]; exact lt_of_le_of_lt (Finset.card_image_le.trans_eq (Finset.card_range k)) hk
  obtain ⟨s, hs⟩ : ∃ s, s ∉ picked v k := by
    by_contra h; push Not at h
    exact absurd (Finset.card_eq_iff_eq_univ _ |>.mpr (Finset.eq_univ_of_forall h)) hc.ne
  intro h
  have h1 := (firstMin_spec (rounds v k)).1 s
  rw [show firstMin (rounds v k) = pick v k from rfl, rounds_apply, rounds_apply, if_pos h, if_neg hs] at h1
  exact absurd (hv s) (not_lt.mpr h1)

/-- `k` rounds find `k` positions. -/
theorem card_picked (v : Fin n → EReal) (hv : ∀ r, v r < ⊤) {k : ℕ} (hk : k ≤ n) : (picked v k).card = k := by
  induction k with
  | zero => simp [picked]
  | succ k ih => rw [picked_succ, Finset.card_insert_of_notMem (pick_notMem v hv hk), ih (by omega)]

/-- Different rounds find different positions. -/
theorem pick_injOn (v : Fin n → EReal) (hv : ∀ r, v r < ⊤) {k : ℕ} (hk : k ≤ n) {a b : ℕ} (ha : a < k) (hb : b < k)
    (h : pick v a = pick v b) : a = b := by
  have : Set.InjOn (pick v) (Finset.range k) := Finset.card_image_iff.mp ((card_picked v hv hk).trans (Finset.card_range k).symm)
  exact this (by simpa using ha) (by simpa using hb) h

/-- No entry outside the found positions is smaller than an entry among them. -/
theorem picked_le (v : Fin n → EReal) (hv : ∀ r, v r < ⊤) {k : ℕ} (hk : k ≤ n) :
    ∀ i ∈ picked v k, ∀ j, j ∉ picked v k → v i ≤ v j := by
  induction k with
  | zero => simp [picked]
  | succ k ih =>
    intro i hi j hj
    rw [picked_succ, Finset.mem_insert, not_or] at hj
    rw [picked_succ, Finset.mem_insert] at hi
    rcases hi with rfl | hi
    · have h1 := (firstMin_spec (rounds v k)).1 j
      rwa [show firstMin (rounds v k) = pick v k from rfl, rounds_apply, rounds_apply,
        if_neg (pick_notMem v hv hk), if_neg hj.2] at h1
    · exact ih (by omega) i hi j hj.2

/-- A set that lies strictly below its complement is every equally large set that lies below its own complement. -/
theorem eq_of_separate {ι : Type} [DecidableEq ι] (v : ι → EReal) (S T : Finset ι) (hc : S.card = T.card)
    (hS : ∀ i ∈ S, ∀ j, j ∉ S → v i < v j) (hT : ∀ i ∈ T, ∀ j, j ∉ T → v i ≤ v j) : T = S := by
  refine Finset.eq_of_subset_of_card_le (fun i hi => ?_) hc.le
  by_contra hiS
  obtain ⟨j, hj, hjT⟩ : ∃ j ∈ S, j ∉ T := by
    by_contra h; push Not at h
    exact hiS ((Finset.eq_of_subset_of_card_le h hc.ge) ▸ hi)
  exact absurd (hS j hj i hiS) (not_lt.mpr (hT i hi j hjT))

/-- Where `k` entries lie strictly below all others, `k` rounds find exactly them. -/
theorem picked_eq_of_separate (v : Fin n → EReal) (hv : ∀ r, v r < ⊤) {k : ℕ} (hk : k ≤ n) (S : Finset (Fin n))
    (hc : S.card = k) (hS : ∀ i ∈ S, ∀ j, j ∉ S → v i < v j) : picked v k = S :=
  eq_of_separate v S _ (hc.trans (card_picked v hv hk).symm) hS (picked_le v hv hk)

/-- The entries are cut into groups (`grp x` the group of entry `x`), and `g` is a column that holds each group's
    smallest entry. Where `k` entries `S` lie strictly below all others, the `k` groups that `k` rounds on `g` find
    contain all of `S`. -/
theorem grp_mem_picked {ι : Type} [Fintype ι] [DecidableEq ι] (d : ι → EReal) (grp : ι → Fin n) (g : Fin n → EReal)
    (hg : ∀ r, g r < ⊤) (hle : ∀ x, g (grp x) ≤ d x) (hex : ∀ r, ∃ x, grp x = r ∧ d x = g r)
    {k : ℕ} (hk : k ≤ n) (S : Finset ι) (hc : S.card = k) (hS : ∀ i ∈ S, ∀ j, j ∉ S → d i < d j) :
    ∀ x ∈ S, grp x ∈ picked g k := by
  intro x hx
  by_contra hxT
  choose w hw hdw using hex
  have hwS : ∀ r ∈ picked g k, w r ∈ S := fun r hr => by
    by_contra hn
    refine absurd (hS x hx (w r) hn) (not_lt.mpr ?_)
    rw [hdw]; exact (picked_le g hg hk r hr (grp x) hxT).trans (hle x)
  have hinj : Function.Injective w := fun a b h => by rw [← hw a, ← hw b, h]
  have hsub : (picked g k).image w ⊆ S.erase x := fun y hy => by
    obtain ⟨r, hr, rfl⟩ := Finset.mem_image.mp hy
    refine Finset.mem_erase.mpr ⟨fun h => hxT ?_, hwS r hr⟩
    rw [← h, hw]; exact hr
  have := Finset.card_le_card hsub
  rw [Finset.card_image_of_injective _ hinj, card_picked g hg hk, Finset.card_erase_of_mem hx, hc] at this
  have : 0 < k := hc ▸ Finset.card_pos.mpr ⟨x, hx⟩
  omega

end Cert.Proof.Extract

end
-- ==== Proof.Marks.lean ====
/- A round of extraction, read on one column: its mark is set exactly at the first row at which the column is smallest,
   and the table after it is `Extract.next` of the column; so the marks of all rounds are `Extract.pick`. -/
module

public import proofs.«01_k».proof.Proof.Body
public import proofs.«01_k».proof.Proof.Extract
public import Idealize.ShloMosaic.Lib.Pointwise
public import Idealize.ShloMosaic.Lib.SortNet.Extract

@[expose] public section

set_option maxRecDepth 16384

noncomputable section

namespace Cert.Proof.Marks

open Cert.KernelIdeal Cert.KernelIdeal.Gen Idealize.ShloMosaic Cert.Proof.Body Cert.Proof.Extract

variable {n : ℕ} (hr : (Tab n).Reduces [0] S256) (hb : S1x256.Broadcasts (Tab n)) (hi : (Tab n).Iotas .tc 32 [0])

/-- Column `m` of a table. -/
def col (v : FVec Ideal (Tab n) .f32) (m : Fin 256) : Fin n → EReal := fun r => v (ix2 r m)

/-- The word of +∞. -/
theorem ofBits_top : Ideal.ofBits .f32 0x7F800000#32 = ⊤ := by simp [Ideal.ofBits, Ideal.ieee]

/-- The smallest entry of a column, folded from +∞, is the entry at the first smallest row. -/
theorem fold_min_eq [NeZero n] (v : Fin n → EReal) : Finset.univ.fold min (⊤ : EReal) v = v (firstMin v) := by
  refine le_antisymm ?_ ?_
  · exact Finset.fold_min_le _ |>.mpr (.inr ⟨_, Finset.mem_univ _, le_rfl⟩)
  · exact Finset.le_fold_min _ |>.mpr ⟨le_top, fun s _ => (firstMin_spec v).1 s⟩

theorem toInt_ofNat {k : ℕ} (h : k < 2 ^ 31) : (BitVec.ofNat 32 k).toInt = k := by
  rw [BitVec.toInt_ofNat', Int.bmod_def]; omega

/-- The row numbers kept by a round: the row's own where the column is smallest, `n` elsewhere. -/
theorem lowRows_apply [NeZero n] (v : FVec Ideal (Tab n) .f32) (r : Fin n) (m : Fin 256) :
    lowRows hr hb hi v (ix2 r m) = BitVec.ofNat 32 (if col v m r = col v m (firstMin (col v m)) then r else n) := by
  have h := fold_min_eq (col v m)
  pointwise [lowRows]
  rw [ofBits_top, show (fun x => v (ix2 x m)) = col v m from rfl, h, show v (ix2 r m) = col v m r from rfl]
  split <;> rfl

/-- The smallest of those row numbers is the first smallest row. -/
theorem fold_lowRows [NeZero n] (hn : n < 2 ^ 31) (v : FVec Ideal (Tab n) .f32) (m : Fin 256) :
    Finset.univ.fold IntOp.minsi 2147483647#32 (fun x => lowRows hr hb hi v (ix2 x m)) =
      BitVec.ofNat 32 (firstMin (col v m)) := by
  have hlt : ∀ s : Fin n, (if col v m s = col v m (firstMin (col v m)) then (s : ℕ) else n) < 2 ^ 31 := fun s => by
    split <;> have := s.isLt <;> omega
  apply BitVec.eq_of_toInt_eq
  rw [← Finset.fold_hom (op' := min) (m := BitVec.toInt) SortNet.toInt_minsi]
  rw [toInt_ofNat ((firstMin (col v m)).isLt.trans hn)]
  simp only [lowRows_apply, toInt_ofNat (hlt _)]
  refine le_antisymm (Finset.fold_min_le _ |>.mpr (.inr ⟨firstMin (col v m), Finset.mem_univ _, ?_⟩))
    (Finset.le_fold_min _ |>.mpr ⟨?_, fun s _ => ?_⟩)
  · rw [if_pos rfl]
  · have h := (firstMin (col v m)).isLt
    show ((firstMin (col v m) : ℕ) : ℤ) ≤ 2147483647
    omega
  · have h := (firstMin (col v m)).isLt
    split
    · rename_i he
      rcases lt_or_ge s (firstMin (col v m)) with hs | hs
      · exact absurd ((firstMin_spec (col v m)).2 s hs) (by rw [he]; exact lt_irrefl _)
      · exact_mod_cast hs
    · exact_mod_cast h.le

/-- A round marks exactly the first smallest row. -/
theorem mark_apply [NeZero n] (hn : n < 2 ^ 31) (v : FVec Ideal (Tab n) .f32) (r : Fin n) (m : Fin 256) :
    mark hr hb hi v (ix2 r m) = if r = firstMin (col v m) then 1#1 else 0#1 := by
  have h := fold_lowRows hr hb hi hn v m
  pointwise [mark]
  rw [h, lowRows_apply]
  have hf := (firstMin (col v m)).isLt
  have hiff : (BitVec.ofNat 32 (if col v m r = col v m (firstMin (col v m)) then (r : ℕ) else n) =
      BitVec.ofNat 32 (firstMin (col v m))) ↔ r = firstMin (col v m) := by
    constructor
    · intro he
      have he := congrArg BitVec.toInt he
      have hr := r.isLt
      rw [toInt_ofNat (by split <;> omega), toInt_ofNat (by omega)] at he
      split at he
      · exact Fin.ext (by exact_mod_cast he)
      · exact absurd (by exact_mod_cast he) hf.ne'
    · intro he; rw [he, if_pos rfl]
  by_cases hq : r = firstMin (col v m)
  · rw [if_pos hq, hiff.mpr hq]; simp [IntOp.cmpi]
  · rw [if_neg hq]; show BitVec.ofBool (_ == _) = _; rw [beq_eq_false_iff_ne.mpr (mt hiff.mp hq)]; rfl

/-- The named constant is +∞. -/
theorem big_eq : (Named.named (F := Ideal) Cert.KernelIdeal.κ "big" 0x7F61B1E6#32 : Ideal .f32) = (⊤ : EReal) :=
  IdealRules.named_const.ideal_named_scalar Cert.KernelIdeal.κ "big" _ _ rfl

/-- The table after a round, on a column. -/
theorem col_drop [NeZero n] (hn : n < 2 ^ 31) (v : FVec Ideal (Tab n) .f32) (m : Fin 256) :
    col (drop hr hb hi v) m = next (col v m) := by
  funext r
  have h := mark_apply hr hb hi hn v r m
  show (if mark hr hb hi v (ix2 r m) = 1#1 then Named.named (F := Ideal) Cert.KernelIdeal.κ "big" 0x7F61B1E6#32
    else v (ix2 r m)) = _
  rw [h, big_eq]
  show _ = Function.update (col v m) (firstMin (col v m)) ⊤ r
  by_cases hq : r = firstMin (col v m)
  · rw [hq]; simp
  · rw [Function.update_of_ne hq]; simp [hq]; rfl

/-- The table before round `k`, on a column. -/
theorem col_tabAt [NeZero n] (hn : n < 2 ^ 31) (v : FVec Ideal (Tab n) .f32) (m : Fin 256) (k : ℕ) :
    col (tabAt hr hb hi v k) m = rounds (col v m) k := by
  induction k with
  | zero => rfl
  | succ k ih => show col (drop hr hb hi (tabAt hr hb hi v k)) m = next (rounds (col v m) k); rw [col_drop _ _ _ hn, ih]

/-- Round `k` marks exactly `Extract.pick` of the column. -/
theorem markAt_apply [NeZero n] (hn : n < 2 ^ 31) (v : FVec Ideal (Tab n) .f32) (k : ℕ) (r : Fin n) (m : Fin 256) :
    markAt hr hb hi v k (ix2 r m) = if r = pick (col v m) k then 1#1 else 0#1 := by
  unfold markAt
  rw [mark_apply _ _ _ hn, col_tabAt _ _ _ hn]
  rfl

/-- The union of two flags. -/
theorem or_flags (p q : Prop) [Decidable p] [Decidable q] :
    ((if p then 1#1 else 0#1) ||| (if q then 1#1 else 0#1)) = if q ∨ p then 1#1 else 0#1 := by
  by_cases p <;> by_cases q <;> simp [*]

/-- The united marks of the rounds up to `k` are the positions found in `k + 1` rounds. -/
theorem marksTo_apply [NeZero n] (hn : n < 2 ^ 31) (v : FVec Ideal (Tab n) .f32) (k : ℕ) (r : Fin n) (m : Fin 256) :
    marksTo hr hb hi v k (ix2 r m) = if r ∈ picked (col v m) (k + 1) then 1#1 else 0#1 := by
  induction k with
  | zero => show markAt hr hb hi v 0 (ix2 r m) = _; rw [markAt_apply _ _ _ hn]; simp [picked]
  | succ k ih =>
    show (marksTo hr hb hi v k (ix2 r m)) ||| (markAt hr hb hi v (k + 1) (ix2 r m)) = _
    rw [ih, markAt_apply _ _ _ hn]
    simp only [picked_succ _ (k + 1), Finset.mem_insert]
    exact or_flags _ _

end Cert.Proof.Marks
-- ==== Proof.Reads.lean ====
/- The body's functions read at one index: each entry of the distances, of the groups' minima, of the marks side by side,
   of the looked-up candidates, of the weights and of the stored block, as a formula in entries of the inputs. -/
module

public import proofs.«01_k».proof.Proof.Marks
public import Idealize.ShloMosaic.Lib.Pipeline.Value

@[expose] public section

set_option maxRecDepth 16384

noncomputable section

namespace Cert.Proof.Reads

open Cert.KernelIdeal Cert.KernelIdeal.Gen Idealize.ShloMosaic Cert.Proof.Marks Cert.Proof.Extract
open Cert.Proof.Body hiding inner

/-- The word of 2. -/
theorem ofBits_two : Ideal.ofBits .f32 0x40000000#32 = 2 := by
  simp [Ideal.ofBits, Ideal.ieee, -EReal.coe_mul]; norm_num; rfl

/-! ## The distances and the groups' minima -/

theorem inner_apply (x0 : Vec Ideal S1x3x8192 .f32) (x1 : Vec Ideal S1x3x256 .f32) (n : Fin 8192) (m : Fin 256) :
    Body.inner x0 x1 (ix2 n m) = ∑ c : Fin 3, (x0 (ix3 0 c n) * x1 (ix3 0 c m) : EReal) := by
  pointwise [Body.inner]

theorem qx_apply (x1 : Vec Ideal S1x3x256 .f32) (m : Fin 256) : qx x1 (ix2 0 m) = x1 (ix3 0 0 m) := by pointwise [qx, qrow]
theorem qy_apply (x1 : Vec Ideal S1x3x256 .f32) (m : Fin 256) : qy x1 (ix2 0 m) = x1 (ix3 0 1 m) := by pointwise [qy, qrow]
theorem qz_apply (x1 : Vec Ideal S1x3x256 .f32) (m : Fin 256) : qz x1 (ix2 0 m) = x1 (ix3 0 2 m) := by pointwise [qz, qrow]

theorem q2_apply (x1 : Vec Ideal S1x3x256 .f32) (m : Fin 256) :
    q2 x1 (ix2 0 m) = (x1 (ix3 0 0 m) * x1 (ix3 0 0 m) + x1 (ix3 0 1 m) * x1 (ix3 0 1 m) + x1 (ix3 0 2 m) * x1 (ix3 0 2 m) : EReal) := by
  rw [← qx_apply x1, ← qy_apply x1, ← qz_apply x1]; rfl

/-- The squared distance of point `n` and query point `m` as the table has it. -/
def dist (q : FVec Ideal S1x256 .f32) (i : FVec Ideal S8192x256 .f32) (p : FVec Ideal S8192x1 .f32) (n : Fin 8192)
    (m : Fin 256) : EReal := (q (ix2 0 m) - 2 * i (ix2 n m)) + p (ix2 n 0)

theorem slab_apply (o : ℕ) (h1 h2) (q : FVec Ideal S1x256 .f32) (i : FVec Ideal S8192x256 .f32) (p : FVec Ideal S8192x1 .f32)
    (r : Fin 512) (m : Fin 256) (hn : o + r < 8192) :
    slab o h1 h2 q i p (ix2 r m) = dist q i p ⟨o + r, hn⟩ m := by
  pointwise [slab, dist]
  rw [ofBits_two]

/-- Point `e` of group `r`. -/
def point (e : Fin 16) (r : Fin 512) : Fin 8192 := ⟨512 * e + r, by have := e.isLt; have := r.isLt; omega⟩

/-- A left-nested minimum of sixteen entries is below each of them and is one of them. -/
theorem min16 (f : Fin 16 → EReal) (g : EReal) (h : g = min (min (min (min (min (min (min (min (min (min (min (min (min (min
    (min (f 0) (f 1)) (f 2)) (f 3)) (f 4)) (f 5)) (f 6)) (f 7)) (f 8)) (f 9)) (f 10)) (f 11)) (f 12)) (f 13)) (f 14)) (f 15)) :
    (∀ e, g ≤ f e) ∧ ∃ e, f e = g := by
  have hg : g = Finset.univ.inf' ⟨0, Finset.mem_univ _⟩ f := by
    rw [h]
    apply le_antisymm
    · refine Finset.le_inf' _ _ fun e _ => ?_
      fin_cases e <;> simp
    · simp only [le_min_iff]
      refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩ <;>
        exact Finset.inf'_le _ (Finset.mem_univ _)
  refine ⟨fun e => hg ▸ Finset.inf'_le _ (Finset.mem_univ _), ?_⟩
  obtain ⟨e, -, he⟩ := Finset.exists_mem_eq_inf' (s := Finset.univ) ⟨0, Finset.mem_univ _⟩ f
  exact ⟨e, (hg.trans he).symm⟩

/-- A group's entry is below the distances of its sixteen points and is one of them. -/
theorem groups_spec (q : FVec Ideal S1x256 .f32) (i : FVec Ideal S8192x256 .f32) (p : FVec Ideal S8192x1 .f32)
    (r : Fin 512) (m : Fin 256) :
    (∀ e, groups q i p (ix2 r m) ≤ dist q i p (point e r) m) ∧ ∃ e, dist q i p (point e r) m = groups q i p (ix2 r m) := by
  refine min16 (fun e => dist q i p (point e r) m) _ ?_
  have hr := r.isLt
  pointwise [groups]
  rw [slab_apply _ _ _ _ _ _ _ _ (by omega), slab_apply _ _ _ _ _ _ _ _ (by omega), slab_apply _ _ _ _ _ _ _ _ (by omega),
    slab_apply _ _ _ _ _ _ _ _ (by omega), slab_apply _ _ _ _ _ _ _ _ (by omega), slab_apply _ _ _ _ _ _ _ _ (by omega),
    slab_apply _ _ _ _ _ _ _ _ (by omega), slab_apply _ _ _ _ _ _ _ _ (by omega), slab_apply _ _ _ _ _ _ _ _ (by omega),
    slab_apply _ _ _ _ _ _ _ _ (by omega), slab_apply _ _ _ _ _ _ _ _ (by omega), slab_apply _ _ _ _ _ _ _ _ (by omega),
    slab_apply _ _ _ _ _ _ _ _ (by omega), slab_apply _ _ _ _ _ _ _ _ (by omega), slab_apply _ _ _ _ _ _ _ _ (by omega),
    slab_apply _ _ _ _ _ _ _ _ (by omega)]
  rfl

/-! ## The look-up -/

/-- Column `m` of block `j` of sixteen. -/
def at4096 (j : Fin 16) (m : Fin 256) : Fin 4096 := ⟨256 * j + m, by have := j.isLt; have := m.isLt; omega⟩

/-- Row `e` of block `j` of sixteen. -/
def at256 (j e : Fin 16) : Fin 256 := ⟨16 * j + e, by have := j.isLt; have := e.isLt; omega⟩

theorem flag_apply (o : IVec S512x256 1) (r : Fin 512) (m : Fin 256) (P : Prop) [Decidable P]
    (h : o (ix2 r m) = if P then 1#1 else 0#1) : flag (F := Ideal) o (ix2 r m) = ((if P then 1 else 0 : ℝ) : EReal) := by
  pointwise [flag]
  rw [h]
  show (((BitVec.setWidth 32 (if P then 1#1 else 0#1)).toInt : ℝ) : EReal) = _
  by_cases hp : P <;> simp [hp]

/-- The marks side by side: block `j` marks the group that round `j` found. -/
theorem flags_apply (g : FVec Ideal S512x256 .f32) (r : Fin 512) (j : Fin 16) (m : Fin 256) :
    flags g (ix2 r (at4096 j m)) = ((if r = pick (col g m) j then 1 else 0 : ℝ) : EReal) := by
  refine Eq.trans ?_ (flag_apply _ _ _ _ (markAt_apply reduces_S512x256_S256 broadcasts_S1x256_S512x256
    iota_S512x256_d0_w32 (by norm_num) g j r m))
  show concatenate S512x4096 1 (List.ofFn fun n : Fin 16 => (⟨S512x256, flag (groupMark g n)⟩ : (s : Shape) × (s.Idx → _)))
    _ _ = _
  have hm := m.isLt
  refine concatenate_ofFn_apply (t := S512x4096) (s₁ := S512x256) 1 _ _ rfl 256 rfl _ j ?_ (ix2 r m) ?_ ?_
  · show (256 * (j : ℕ) + m) / 256 = j; omega
  · show (m : ℕ) = (256 * (j : ℕ) + m) % 256; omega
  · intro b hb
    match b with
    | ⟨0, _⟩ => rfl
    | ⟨1, _⟩ => exact absurd rfl hb

theorem parts_apply (x3 : Vec Ideal S1x512x144 .bf16) (f : FVec Ideal S512x4096 .bf16) (i : Fin 144) (c : Fin 4096) :
    parts x3 f (ix2 i c) = ∑ r : Fin 512, (x3 (ix3 0 r i) * f (ix2 r c) : EReal) := by
  pointwise [parts]

/-- The product with the marks of round `j` selects the row of the group that round `j` found. -/
theorem parts_flags (x3 : Vec Ideal S1x512x144 .bf16) (g : FVec Ideal S512x256 .f32) (i : Fin 144) (j : Fin 16) (m : Fin 256) :
    parts x3 (flags g) (ix2 i (at4096 j m)) = x3 (ix3 0 (pick (col g m) j) i) := by
  rw [parts_apply, Finset.sum_eq_single (pick (col g m) j)]
  · rw [flags_apply, if_pos rfl]; simp
  · intro r _ hr; rw [flags_apply, if_neg hr]; simp
  · intro h; exact absurd (Finset.mem_univ _) h

/-- The three parts of row `i` of group `r`, added up. -/
def partSum (x3 : Vec Ideal S1x512x144 .bf16) (r : Fin 512) (i : Fin 48) : EReal :=
  (x3 (ix3 0 r ⟨96 + i, by omega⟩) + x3 (ix3 0 r ⟨48 + i, by omega⟩)) + x3 (ix3 0 r ⟨i, by omega⟩)

theorem coordsOf_apply (x3 : Vec Ideal S1x512x144 .bf16) (g : FVec Ideal S512x256 .f32) (i : Fin 48) (j : Fin 16) (m : Fin 256) :
    coordsOf x3 g (ix2 i (at4096 j m)) = partSum x3 (pick (col g m) j) i := by
  unfold coordsOf partSum
  rw [← parts_flags x3, ← parts_flags x3, ← parts_flags x3]
  generalize parts x3 (flags g) = p
  pointwise [coords]

/-- Stacking moves entry `(e, 256 j + m)` to `(16 j + e, m)`. -/
theorem stack_apply (v : FVec Ideal S16x4096 .f32) (j e : Fin 16) (m : Fin 256) :
    stack v (ix2 (at256 j e) m) = v (ix2 e (at4096 j m)) := by
  have hs : ∀ n : Fin 16, S16x4096.Slices ![0, 256 * (n : ℕ)] S16x256 := by decide
  have hm := m.isLt; have he := e.isLt
  show concatenate S256x256 0 (List.ofFn fun n : Fin 16 =>
    (⟨S16x256, extractStridedSlice S16x256 ![0, 256 * (n : ℕ)] v (hs n)⟩ : (s : Shape) × (s.Idx → _))) _ _ = _
  refine (concatenate_ofFn_apply (t := S256x256) (s₁ := S16x256) 0 _ _ rfl 16 rfl _ j ?_ (ix2 e m) ?_ ?_).trans ?_
  · show (16 * (j : ℕ) + e) / 16 = j; omega
  · show (e : ℕ) = (16 * (j : ℕ) + e) % 16; omega
  · intro b hb
    match b with
    | ⟨0, _⟩ => exact absurd rfl hb
    | ⟨1, _⟩ => rfl
  · pointwise []
    rfl

/-- Candidate `16 j + e`: the three coordinates' rows `e`, `16 + e`, `32 + e` of the group that round `j` found. -/
theorem candX_apply (x3 : Vec Ideal S1x512x144 .bf16) (g : FVec Ideal S512x256 .f32) (j e : Fin 16) (m : Fin 256) :
    candX (coordsOf x3 g) (ix2 (at256 j e) m) = partSum x3 (pick (col g m) j) ⟨e, by omega⟩ := by
  rw [← coordsOf_apply]; unfold candX; rw [stack_apply]; pointwise []
theorem candY_apply (x3 : Vec Ideal S1x512x144 .bf16) (g : FVec Ideal S512x256 .f32) (j e : Fin 16) (m : Fin 256) :
    candY (coordsOf x3 g) (ix2 (at256 j e) m) = partSum x3 (pick (col g m) j) ⟨16 + e, by omega⟩ := by
  rw [← coordsOf_apply]; unfold candY; rw [stack_apply]; pointwise []
theorem candZ_apply (x3 : Vec Ideal S1x512x144 .bf16) (g : FVec Ideal S512x256 .f32) (j e : Fin 16) (m : Fin 256) :
    candZ (coordsOf x3 g) (ix2 (at256 j e) m) = partSum x3 (pick (col g m) j) ⟨32 + e, by omega⟩ := by
  rw [← coordsOf_apply]; unfold candZ; rw [stack_apply]; pointwise []

/-! ## The second pass and the weights -/

theorem candDist_apply (a b c s : FVec Ideal S1x256 .f32) (x y z : FVec Ideal S256x256 .f32) (k : Fin 256) (m : Fin 256) :
    candDist a b c s x y z (ix2 k m) =
      ((s (ix2 0 m) - 2 * (a (ix2 0 m) * x (ix2 k m) + b (ix2 0 m) * y (ix2 k m) + c (ix2 0 m) * z (ix2 k m))) +
        (x (ix2 k m) * x (ix2 k m) + y (ix2 k m) * y (ix2 k m) + z (ix2 k m) * z (ix2 k m)) : EReal) := by
  pointwise [candDist, roundedRow, rounded]
  rw [ofBits_two]

theorem euclid_apply (a b c : FVec Ideal S1x256 .f32) (x y z : FVec Ideal S256x256 .f32) (k : Fin 256) (m : Fin 256) :
    euclid a b c x y z (ix2 k m) =
      ((x (ix2 k m) - a (ix2 0 m)) * (x (ix2 k m) - a (ix2 0 m)) + (y (ix2 k m) - b (ix2 0 m)) * (y (ix2 k m) - b (ix2 0 m)) +
        (z (ix2 k m) - c (ix2 0 m)) * (z (ix2 k m) - c (ix2 0 m)) : EReal) := by
  pointwise [euclid, diff]

/-- The weights, for a set `T` of chosen rows in column `m`. -/
theorem weight_apply (inv : Ideal .f32) (sel : IVec S256x256 1) (ed : FVec Ideal S256x256 .f32) (m : Fin 256)
    (T : Finset (Fin 256)) (hT : ∀ k, sel (ix2 k m) = if k ∈ T then 1#1 else 0#1) (k : Fin 256) :
    weight inv sel ed (ix2 k m) =
      if k ∈ T then Ideal.exp ((Finset.univ.fold min (⊤ : EReal) (fun x => if x ∈ T then ed (ix2 x m) else ⊤) - ed (ix2 k m)) * inv)
      else (0 : EReal) := by
  have hs : ∀ (x : Fin 256) (a b : Ideal .f32), Scalar.select (sel (ix2 x m)) a b = if x ∈ T then a else b := fun x a b => by
    rw [hT]; by_cases h : x ∈ T <;> simp [h, Scalar.select]
  pointwise [weight]
  simp only [hs, ofBits_top, big_eq]

theorem mean_apply (w x : FVec Ideal S256x256 .f32) (m : Fin 256) :
    mean w x (ix2 0 m) = Ideal.div (∑ k, (w (ix2 k m) * x (ix2 k m) : EReal)) (∑ k, (w (ix2 k m) : EReal)) := by
  pointwise [mean, colSum]

/-- The stored block's three rows are the means of the three coordinates. -/
theorem finish_apply (inv : Ideal .f32) (a b c s : FVec Ideal S1x256 .f32) (x : Fin 3 → FVec Ideal S256x256 .f32)
    (i : Fin 3) (m : Fin 256) :
    finish inv a b c s (x 0) (x 1) (x 2) (ix3 0 i m) =
      mean (weight inv (chosen (candDist a b c s (x 0) (x 1) (x 2))) (euclid a b c (x 0) (x 1) (x 2))) (x i) (ix2 0 m) := by
  pointwise [finish]
  match i with
  | 0 => rfl
  | 1 => rfl
  | 2 => rfl

end Cert.Proof.Reads
-- ==== Proof.Column.lean ====
/- One column of a block: where the points and the query are finite and sixteen points lie strictly nearer than all others,
   those sixteen are among the 256 candidates that the look-up returns, and they are the candidates that the second pass
   chooses. -/
module

public import proofs.«01_k».proof.Proof.Reads

@[expose] public section

set_option maxRecDepth 16384

noncomputable section

namespace Cert.Proof.Column

open Cert.KernelIdeal Cert.KernelIdeal.Gen Idealize.ShloMosaic
open Cert.Proof.Extract Cert.Proof.Marks Cert.Proof.Reads
open Cert.Proof.Body hiding inner

/-- The squared distance of query `Q` and point `n`, as the table has it. -/
def sq (P : Fin 3 → Fin 8192 → ℝ) (Q : Fin 3 → ℝ) (n : Fin 8192) : ℝ :=
  ((∑ a, Q a * Q a) - 2 * ∑ a, Q a * P a n) + ∑ a, P a n * P a n

/-- The squared distance by differences. -/
def apart (P : Fin 3 → Fin 8192 → ℝ) (Q : Fin 3 → ℝ) (n : Fin 8192) : ℝ := ∑ a, (P a n - Q a) * (P a n - Q a)

/-- Row `k` of 256 as round and place in the group. -/
theorem at256_split (k : Fin 256) : ∃ j e : Fin 16, at256 j e = k :=
  ⟨⟨k / 16, by omega⟩, ⟨k % 16, by omega⟩, Fin.ext (by show 16 * ((k : ℕ) / 16) + (k : ℕ) % 16 = k; omega)⟩

/-- The point that candidate `k` is, the groups found given by their column. -/
def cand (g : Fin 512 → EReal) (k : Fin 256) : Fin 8192 :=
  point ⟨k % 16, by omega⟩ (pick g ((k : ℕ) / 16))

theorem cand_at256 (g : Fin 512 → EReal) (j e : Fin 16) : cand g (at256 j e) = point e (pick g j) := by
  have hd : ((at256 j e : Fin 256) : ℕ) / 16 = j := by show (16 * (j : ℕ) + e) / 16 = j; omega
  have hm : ((at256 j e : Fin 256) : ℕ) % 16 = e := by show (16 * (j : ℕ) + e) % 16 = e; omega
  unfold cand
  rw [hd]
  congr 1
  exact Fin.ext hm

/-- The group of a point. -/
def grp (n : Fin 8192) : Fin 512 := ⟨n % 512, by omega⟩

theorem point_grp (n : Fin 8192) : point ⟨n / 512, by omega⟩ (grp n) = n :=
  Fin.ext (by show 512 * ((n : ℕ) / 512) + (n : ℕ) % 512 = n; omega)

theorem grp_point (e : Fin 16) (r : Fin 512) : grp (point e r) = r :=
  Fin.ext (by show (512 * (e : ℕ) + r) % 512 = r; omega)

/-- Different candidates are different points. -/
theorem cand_injective (g : Fin 512 → EReal) (hg : ∀ r, g r < ⊤) : Function.Injective (cand g) := by
  intro k l h
  obtain ⟨j, e, rfl⟩ := at256_split k
  obtain ⟨j', e', rfl⟩ := at256_split l
  rw [cand_at256, cand_at256] at h
  have hr : pick g j = pick g j' := by rw [← grp_point e (pick g j), h, grp_point]
  have hj : (j : ℕ) = j' := pick_injOn g hg (k := 16) (by omega) j.isLt j'.isLt hr
  have he : (e : ℕ) = e' := by
    have := congrArg Fin.val h
    rw [hr] at this
    have h2 : 512 * (e : ℕ) + (pick g j' : ℕ) = 512 * (e' : ℕ) + (pick g j' : ℕ) := this
    omega
  rw [Fin.ext hj, Fin.ext he]

variable (x0 : Vec Ideal S1x3x8192 .f32) (x1 : Vec Ideal S1x3x256 .f32) (x2 : Vec Ideal S1x8192x1 .f32)
  (x3 : Vec Ideal S1x512x144 .bf16) (m : Fin 256) (P : Fin 3 → Fin 8192 → ℝ) (Q : Fin 3 → ℝ)

/-- What the blocks hold in the column: the points, the query, the points' squared lengths, and a table of parts whose sums
    are the points' coordinates. -/
structure Holds : Prop where
  points : ∀ a n, x0 (ix3 0 a n) = (P a n : EReal)
  query : ∀ a, x1 (ix3 0 a m) = (Q a : EReal)
  lengths : ∀ n, x2 (ix3 0 n 0) = ((∑ a, P a n * P a n : ℝ) : EReal)
  parts : ∀ (a : Fin 3) (e : Fin 16) (r : Fin 512), partSum x3 r ⟨16 * a + e, by omega⟩ = (P a (point e r) : EReal)

variable {x0 x1 x2 x3 m P Q}

/-- The table's squared distances. -/
theorem dist_eq (h : Holds x0 x1 x2 x3 m P Q) (n : Fin 8192) :
    Reads.dist (q2 x1) (Body.inner x0 x1) (shapeCast S8192x1 x2 shapeCasts_S1x8192x1_S8192x1) n m = (sq P Q n : EReal) := by
  have h2 : shapeCast S8192x1 x2 shapeCasts_S1x8192x1_S8192x1 (ix2 n 0) = x2 (ix3 0 n 0) := by pointwise
  rw [Reads.dist, h2, h.lengths, q2_apply, inner_apply]
  simp only [h.points, h.query, Fin.sum_univ_three, sq, show (2 : EReal) = ((2 : ℝ) : EReal) from rfl,
    ← EReal.coe_mul, ← EReal.coe_add, ← EReal.coe_sub]
  congr 1; ring

/-- The column of the groups' minima: each is below its points' squared distances and is one of them. -/
theorem groups_col (h : Holds x0 x1 x2 x3 m P Q) :
    (∀ n, col (groupsOf x0 x1 x2) m (grp n) ≤ (sq P Q n : EReal)) ∧
      ∀ r, ∃ n, grp n = r ∧ (sq P Q n : EReal) = col (groupsOf x0 x1 x2) m r := by
  constructor
  · intro n
    have := (groups_spec (q2 x1) (Body.inner x0 x1) (shapeCast S8192x1 x2 shapeCasts_S1x8192x1_S8192x1) (grp n) m).1
      ⟨n / 512, by omega⟩
    rw [dist_eq h, point_grp] at this
    exact this
  · intro r
    obtain ⟨e, he⟩ := (groups_spec (q2 x1) (Body.inner x0 x1) (shapeCast S8192x1 x2 shapeCasts_S1x8192x1_S8192x1) r m).2
    rw [dist_eq h] at he
    exact ⟨point e r, grp_point e r, he⟩

theorem groups_lt_top (h : Holds x0 x1 x2 x3 m P Q) (r : Fin 512) : col (groupsOf x0 x1 x2) m r < ⊤ := by
  obtain ⟨n, -, hn⟩ := (groups_col h).2 r
  rw [← hn]; exact EReal.coe_lt_top _

/-- The candidates' three coordinates. -/
def table (x0 : Vec Ideal S1x3x8192 .f32) (x1 : Vec Ideal S1x3x256 .f32) (x2 : Vec Ideal S1x8192x1 .f32)
    (x3 : Vec Ideal S1x512x144 .bf16) : Fin 3 → FVec Ideal S256x256 .f32
  | 0 => candX (coordsOf x3 (groupsOf x0 x1 x2))
  | 1 => candY (coordsOf x3 (groupsOf x0 x1 x2))
  | 2 => candZ (coordsOf x3 (groupsOf x0 x1 x2))

/-- A candidate's coordinate is its point's. -/
theorem table_eq (h : Holds x0 x1 x2 x3 m P Q) (a : Fin 3) (k : Fin 256) :
    table x0 x1 x2 x3 a (ix2 k m) = (P a (cand (col (groupsOf x0 x1 x2) m) k) : EReal) := by
  obtain ⟨j, e, rfl⟩ := at256_split k
  rw [cand_at256, ← h.parts a e]
  match a with
  | 0 => exact (candX_apply _ _ _ _ _).trans (congrArg (partSum x3 _) (Fin.ext (by simp)))
  | 1 => exact (candY_apply _ _ _ _ _).trans (congrArg (partSum x3 _) (Fin.ext (by simp)))
  | 2 => exact (candZ_apply _ _ _ _ _).trans (congrArg (partSum x3 _) (Fin.ext (by simp)))

/-- The second pass's squared distances are the table's. -/
theorem candDist_eq (h : Holds x0 x1 x2 x3 m P Q) (k : Fin 256) :
    candDist (qx x1) (qy x1) (qz x1) (q2 x1) (table x0 x1 x2 x3 0) (table x0 x1 x2 x3 1) (table x0 x1 x2 x3 2) (ix2 k m)
      = (sq P Q (cand (col (groupsOf x0 x1 x2) m) k) : EReal) := by
  rw [candDist_apply, q2_apply, qx_apply, qy_apply, qz_apply, table_eq h, table_eq h, table_eq h]
  simp only [h.query, Fin.sum_univ_three, sq, show (2 : EReal) = ((2 : ℝ) : EReal) from rfl,
    ← EReal.coe_mul, ← EReal.coe_add, ← EReal.coe_sub]

/-- The candidates' squared distances by differences. -/
theorem euclid_eq (h : Holds x0 x1 x2 x3 m P Q) (k : Fin 256) :
    euclid (qx x1) (qy x1) (qz x1) (table x0 x1 x2 x3 0) (table x0 x1 x2 x3 1) (table x0 x1 x2 x3 2) (ix2 k m)
      = (apart P Q (cand (col (groupsOf x0 x1 x2) m) k) : EReal) := by
  rw [euclid_apply, qx_apply, qy_apply, qz_apply, table_eq h, table_eq h, table_eq h]
  simp only [h.query, Fin.sum_univ_three, apart, ← EReal.coe_mul, ← EReal.coe_add, ← EReal.coe_sub]

/-- The candidates that are among the sixteen. -/
def ours (g : Fin 512 → EReal) (S : Finset (Fin 8192)) : Finset (Fin 256) := Finset.univ.filter fun k => cand g k ∈ S

section Separate

variable (S : Finset (Fin 8192)) (hc : S.card = 16) (hS : ∀ i ∈ S, ∀ j, j ∉ S → sq P Q i < sq P Q j)
include hc hS

/-- Every one of the sixteen nearest points is a candidate. -/
theorem exists_cand (h : Holds x0 x1 x2 x3 m P Q) (n : Fin 8192) (hn : n ∈ S) :
    ∃ k, cand (col (groupsOf x0 x1 x2) m) k = n := by
  have hp := grp_mem_picked (fun n => (sq P Q n : EReal)) grp (col (groupsOf x0 x1 x2) m) (groups_lt_top h) (groups_col h).1
    (groups_col h).2 (k := 16) (by omega) S hc (fun i hi j hj => EReal.coe_lt_coe_iff.mpr (hS i hi j hj)) n hn
  obtain ⟨j, hj, hjr⟩ := Finset.mem_image.mp hp
  refine ⟨at256 ⟨j, Finset.mem_range.mp hj⟩ ⟨n / 512, by omega⟩, ?_⟩
  rw [cand_at256]
  show point _ (pick _ j) = n
  rw [hjr, point_grp]

/-- The second pass chooses the sixteen nearest points. -/
theorem chosen_eq (h : Holds x0 x1 x2 x3 m P Q) (k : Fin 256) :
    chosen (candDist (qx x1) (qy x1) (qz x1) (q2 x1) (table x0 x1 x2 x3 0) (table x0 x1 x2 x3 1) (table x0 x1 x2 x3 2)) (ix2 k m)
      = if k ∈ ours (col (groupsOf x0 x1 x2) m) S then 1#1 else 0#1 := by
  set d := candDist (qx x1) (qy x1) (qz x1) (q2 x1) (table x0 x1 x2 x3 0) (table x0 x1 x2 x3 1) (table x0 x1 x2 x3 2) with hd
  have hcol : ∀ k, col d m k = (sq P Q (cand (col (groupsOf x0 x1 x2) m) k) : EReal) := fun k => candDist_eq h k
  have hinj := cand_injective _ (groups_lt_top h)
  have hcard : (ours (col (groupsOf x0 x1 x2) m) S).card = 16 := by
    have himg : (ours (col (groupsOf x0 x1 x2) m) S).image (cand (col (groupsOf x0 x1 x2) m)) = S := by
      ext n
      simp only [Finset.mem_image, ours, Finset.mem_filter, Finset.mem_univ, true_and]
      constructor
      · rintro ⟨k, hk, rfl⟩; exact hk
      · intro hn
        obtain ⟨k, rfl⟩ := exists_cand S hc hS h n hn
        exact ⟨k, hn, rfl⟩
    rw [← hc, ← himg, Finset.card_image_of_injective _ hinj, himg]
  have hp : picked (col d m) 16 = ours (col (groupsOf x0 x1 x2) m) S := by
    refine picked_eq_of_separate _ (fun r => by rw [hcol]; exact EReal.coe_lt_top _) (by omega) _ hcard fun i hi j hj => ?_
    rw [hcol, hcol]
    simp only [ours, Finset.mem_filter, Finset.mem_univ, true_and] at hi hj
    exact EReal.coe_lt_coe_iff.mpr (hS _ hi _ hj)
  rw [← hp]
  exact marksTo_apply _ _ _ (by norm_num) d 15 k m

/-- The block's entry: the weighted mean of the candidates' coordinate, weights zero outside the sixteen. -/
theorem block_eq (h : Holds x0 x1 x2 x3 m P Q) (s : EReal) (a : Fin 3) :
    ∃ w : Fin 256 → EReal, (∀ k, w k = if k ∈ ours (col (groupsOf x0 x1 x2) m) S then
        Ideal.exp ((Finset.univ.fold min (⊤ : EReal) (fun x => if x ∈ ours (col (groupsOf x0 x1 x2) m) S then
          (apart P Q (cand (col (groupsOf x0 x1 x2) m) x) : EReal) else ⊤)
          - apart P Q (cand (col (groupsOf x0 x1 x2) m) k)) * recip (F := Ideal) s) else 0) ∧
      block x0 x1 x2 x3 s (ix3 0 a m) = Ideal.div (∑ k, w k * (P a (cand (col (groupsOf x0 x1 x2) m) k) : EReal)) (∑ k, w k) := by
  refine ⟨fun k => weight (recip (F := Ideal) s) (chosen (candDist (qx x1) (qy x1) (qz x1) (q2 x1) (table x0 x1 x2 x3 0)
      (table x0 x1 x2 x3 1) (table x0 x1 x2 x3 2))) (euclid (qx x1) (qy x1) (qz x1) (table x0 x1 x2 x3 0) (table x0 x1 x2 x3 1)
      (table x0 x1 x2 x3 2)) (ix2 k m), fun k => ?_, ?_⟩
  · refine (weight_apply _ _ _ m _ (chosen_eq S hc hS h) k).trans ?_
    simp only [euclid_eq h]
  · refine (finish_apply _ _ _ _ _ (table x0 x1 x2 x3) a m).trans ?_
    rw [mean_apply]
    simp only [table_eq h]

end Separate

end Cert.Proof.Column
-- ==== Proof.TopK.lean ====
/- The greatest entries of each row of an array of extended reals: where each comes from, that they are in descending
   order, and that no entry left out exceeds one taken. -/
module

public import Idealize.ShloMosaic.Lib.Pointwise
public import Idealize.ShloMosaic.Lib.SortFacts

@[expose] public section

set_option maxRecDepth 16384

noncomputable section

namespace Cert.Proof.TopK

open Idealize.ShloMosaic

/-- The columns of a row in the row's descending order. -/
def source {n : ℕ} (v : Fin n → EReal) : Fin n → Fin n :=
  sortedFrom fun k k' => FloatOps.cmpfTotal (F := Ideal) (φ := .f32) .gt (v k) (v k') == 1#1

theorem gt_iff (x y : EReal) : (FloatOps.cmpfTotal (F := Ideal) (φ := .f32) .gt x y == 1#1) = decide (y < x) := by
  show (BitVec.ofBool (decide (y < x)) == 1#1) = _
  by_cases h : y < x <;> simp [h]

theorem source_injective {n : ℕ} (v : Fin n → EReal) : Function.Injective (source v) := sortedFrom_injective _

theorem source_surjective {n : ℕ} (v : Fin n → EReal) : Function.Surjective (source v) := sortedFrom_surjective _

/-- The row read in that order descends. -/
theorem source_antitone {n : ℕ} (v : Fin n → EReal) {i j : Fin n} (h : i ≤ j) : v (source v j) ≤ v (source v i) := by
  rcases h.eq_or_lt with rfl | h
  · exact le_rfl
  · have := sortedFrom_noInversion (fun k k' => decide (v k' < v k))
      (fun k k' => FloatOps.cmpfTotal (F := Ideal) (φ := .f32) .gt (v k) (v k') == 1#1)
      (fun a b hab => by rw [gt_iff] at hab; simp only [decide_eq_true_eq, decide_eq_false_iff_not, not_lt] at hab ⊢; exact hab.le)
      (fun a b hab => by rw [gt_iff]; exact hab)
      (fun a b c hab hbc => by simp only [decide_eq_false_iff_not, not_lt] at hab hbc ⊢; exact hab.trans hbc) i j h
    simpa [source] using this

/-- The greatest entries of the rows of an array, and the columns they come from. -/
theorem topK_apply (K : ℕ) (hK : K ≤ 8192) (x : (⟨3, ![4, 2048, 8192]⟩ : Shape).Idx → EReal)
    (h : (⟨3, ![4, 2048, 8192]⟩ : Shape).Slices (fun _ => 0) ⟨3, ![4, 2048, K]⟩) (b : Fin 4) (m : Fin 2048) (k : Fin K) :
    (Host.topK ⟨3, ![4, 2048, K]⟩ 2 (FloatOps.cmpfTotal (F := Ideal) (φ := .f32) .gt) x h).1 (ix3 b m k)
        = x (ix3 b m (source (fun n => x (ix3 b m n)) ⟨k, by omega⟩)) ∧
    (Host.topK ⟨3, ![4, 2048, K]⟩ 2 (FloatOps.cmpfTotal (F := Ideal) (φ := .f32) .gt) x h).2 (ix3 b m k)
        = BitVec.ofNat 32 (source (fun n => x (ix3 b m n)) ⟨k, by omega⟩) := by
  have he : ∀ (hb : ∀ a : Fin 3, 0 + (ix3 b m k (Fin.cast h.1.symm a)).val < (⟨3, ![4, 2048, 8192]⟩ : Shape).size a) (n : Fin 8192),
      Shape.Idx.along (s := ⟨3, ![4, 2048, 8192]⟩) (fun a => ⟨0 + (ix3 b m k (Fin.cast h.1.symm a)).val, hb a⟩) (2 : Fin 3) n
        = ix3 b m n := by
    intro hb n
    funext a
    match a with
    | ⟨0, _⟩ => exact Fin.ext (Nat.zero_add _)
    | ⟨1, _⟩ => exact Fin.ext (Nat.zero_add _)
    | ⟨2, _⟩ => rfl
  have hk : ∀ hb, (⟨0 + (ix3 b m k (Fin.cast h.1.symm (2 : Fin 3))).val, hb⟩ : Fin 8192) = ⟨k, by omega⟩ :=
    fun hb => Fin.ext (Nat.zero_add _)
  simp only [Host.topK, Host.sort2, extractStridedSlice]
  simp only [show (2 : ℕ) < (⟨3, ![4, 2048, 8192]⟩ : Shape).rank from by decide, dite_true]
  constructor
  · refine (congrArg x (he _ _)).trans ?_
    refine congrArg (fun n => x (ix3 b m n)) ?_
    refine (congrArg₂ sortedFrom (funext fun u => funext fun v => ?_) (hk _))
    exact congrArg₂ (fun y z => FloatOps.cmpfTotal (F := Ideal) (φ := .f32) .gt (x y) (x z) == 1#1) (he _ _) (he _ _)
  · refine (congrArg (iotaInDim ⟨3, ![4, 2048, 8192]⟩ 32 (2 : Fin 3)) (he _ _)).trans ?_
    refine congrArg (fun n : Fin 8192 => BitVec.ofNat 32 n) ?_
    refine (congrArg₂ sortedFrom (funext fun u => funext fun v => ?_) (hk _))
    exact congrArg₂ (fun y z => FloatOps.cmpfTotal (F := Ideal) (φ := .f32) .gt (x y) (x z) == 1#1) (he _ _) (he _ _)

end Cert.Proof.TopK
-- ==== Proof.Ref.lean ====
/- The reference at an entry: the squared distances, the sixteen nearest points in order, and the weighted mean of a
   coordinate over them. -/
module

public import proofs.«01_k».proof.Proof.Gen.ReferenceIdeal.Run
public import proofs.«01_k».proof.Proof.TopK
public import Idealize.ShloMosaic.Lib.Claim

@[expose] public section

set_option maxRecDepth 16384

noncomputable section

namespace Cert.Proof.Ref

open Cert.ReferenceIdeal Cert.ReferenceIdeal.Gen Idealize.ShloMosaic Idealize.ShloMosaic.Tactic
open Idealize.ShloMosaic.TcCoe Idealize.SL.Sem

section Terms

variable {F : FTy → Type} [FloatOps F]

/-- The squared distances of every query to every point. -/
def dists (p : FVec F S4x3x8192 .f32) (q : FVec F S4x3x2048 .f32) : FVec F S4x2048x8192 .f32 :=
  addf (subf
    (broadcastInDim S4x2048x8192 ![0, 1, 2] bcast_S4x2048x1_S4x2048x8192_0_1_2 (broadcastInDim S4x2048x1 ![0, 1]
      bcast_S4x2048_S4x2048x1_0_1 (Host.reduceAdd (mulf q q) (constant S_ .f32 0#32) reducesTo_S4x3x2048_S4x2048_d1 h_S_)))
    (mulf (broadcastInDim S4x2048x8192 ![] bcast_S_S4x2048x8192 (constant S_ .f32 0x40000000#32))
      (Host.dotGeneral dot_S4x3x2048_S4x3x8192_S4x2048x8192_1_1_2_2_0_0 none q p)))
    (broadcastInDim S4x2048x8192 ![0, 1, 2] bcast_S4x1x8192_S4x2048x8192_0_1_2 (broadcastInDim S4x1x8192 ![0, 2]
      bcast_S4x8192_S4x1x8192_0_2 (Host.reduceAdd (mulf p p) (constant S_ .f32 0#32) reducesTo_S4x3x8192_S4x8192_d1 h_S_)))

/-- The numbers of the sixteen nearest points of every query. -/
def order (d : FVec F S4x2048x8192 .f32) : IVec S4x2048x16 32 :=
  (Host.topK S4x2048x16 2 (FloatOps.cmpfTotal .gt) (Host.negf d) sliceFits_S4x2048x8192_S4x2048x16).2

/-- Those points' coordinates. -/
def near (p : FVec F S4x3x8192 .f32) (i : IVec S4x2048x16 32) : FVec F S4x3x2048x16 .f32 :=
  Host.gather gather_S4x3x8192_S4x2048x16x1_S4x3x2048x16_1_2_0_0_2_3_131 p
    (broadcastInDim S4x2048x16x1 ![0, 1, 2] bcast_S4x2048x16_S4x2048x16x1_0_1_2
      (select (cmpi .slt i (broadcastInDim S4x2048x16 ![] bcast_S_S4x2048x16 (constantI S_ 32 0#32)))
        (addi i (broadcastInDim S4x2048x16 ![] bcast_S_S4x2048x16 (constantI S_ 32 8192#32))) i))

/-- The bandwidth. -/
def width (t : FVec F S_ .f32) : FVec F S_ .f32 :=
  addf (maximumf (mulf t t) (constant S_ .f32 0x38D1B717#32)) (constant S_ .f32 0x322BCC77#32)

/-- The nearest points' scores: minus the squared distance over the bandwidth. -/
def scores (x : FVec F S4x3x2048x16 .f32) (q : FVec F S4x3x2048 .f32) (s : FVec F S_ .f32) : FVec F S4x1x2048x16 .f32 :=
  Host.negf (Host.divf
    (broadcastInDim S4x1x2048x16 ![0, 2, 3] bcast_S4x2048x16_S4x1x2048x16_0_2_3 (Host.reduceAdd
      (mulf (subf x (broadcastInDim S4x3x2048x16 ![0, 1, 2, 3] bcast_S4x3x2048x1_S4x3x2048x16_0_1_2_3
          (broadcastInDim S4x3x2048x1 ![0, 1, 2] bcast_S4x3x2048_S4x3x2048x1_0_1_2 q)))
        (subf x (broadcastInDim S4x3x2048x16 ![0, 1, 2, 3] bcast_S4x3x2048x1_S4x3x2048x16_0_1_2_3
          (broadcastInDim S4x3x2048x1 ![0, 1, 2] bcast_S4x3x2048_S4x3x2048x1_0_1_2 q))))
      (constant S_ .f32 0#32) reducesTo_S4x3x2048x16_S4x2048x16_d1 h_S_))
    (broadcastInDim S4x1x2048x16 ![] bcast_S_S4x1x2048x16 s))

/-- The exponentials of the scores less the greatest. -/
def raised (z : FVec F S4x1x2048x16 .f32) : FVec F S4x1x2048x16 .f32 :=
  Host.exp (subf z (broadcastInDim S4x1x2048x16 ![0, 1, 2, 3] bcast_S4x1x2048x1_S4x1x2048x16_0_1_2_3
    (broadcastInDim S4x1x2048x1 ![0, 1, 2] bcast_S4x1x2048_S4x1x2048x1_0_1_2
      (maximumf (broadcastInDim S4x1x2048 ![] bcast_S_S4x1x2048 (constant S_ .f32 0xFF800000#32))
        (Host.reduce FloatOps.maximumf z (constant S_ .f32 0xFF800000#32) reducesTo_S4x1x2048x16_S4x1x2048_d3 h_S_)))))

/-- The weights: the exponentials over their sum. -/
def weights (e : FVec F S4x1x2048x16 .f32) : FVec F S4x1x2048x16 .f32 :=
  Host.divf e (broadcastInDim S4x1x2048x16 ![0, 1, 2, 3] bcast_S4x1x2048x1_S4x1x2048x16_0_1_2_3
    (broadcastInDim S4x1x2048x1 ![0, 1, 2] bcast_S4x1x2048_S4x1x2048x1_0_1_2
      (Host.reduceAdd e (constant S_ .f32 0#32) reducesTo_S4x1x2048x16_S4x1x2048_d3 h_S_)))

/-- The weighted mean. -/
def mean (x : FVec F S4x3x2048x16 .f32) (w : FVec F S4x1x2048x16 .f32) : FVec F S4x3x2048 .f32 :=
  Host.reduceAdd (mulf x (broadcastInDim S4x3x2048x16 ![0, 1, 2, 3] bcast_S4x1x2048x16_S4x3x2048x16_0_1_2_3 w))
    (constant S_ .f32 0#32) reducesTo_S4x3x2048x16_S4x3x2048_d3 h_S_

/-- The reference's result. -/
def result (p : FVec F S4x3x8192 .f32) (q : FVec F S4x3x2048 .f32) (t : FVec F S_ .f32) : FVec F S4x3x2048 .f32 :=
  mean (near p (order (dists p q))) (weights (raised (scores (near p (order (dists p q))) q (width t))))

/-- What the reference's run leaves in its result. -/
theorem res_eq (m : (ℓ : Loc nD τ sig) → Buf (Elt F) ℓ) (c : Dev nD) : Value.res_out0 m c =
    result (m ((c : Thread nD τ).loc main_arg0)) (m ((c : Thread nD τ).loc main_arg1)) (m ((c : Thread nD τ).loc main_arg2)) := by
  sl_kernel_rfl

end Terms

theorem two_eq : (Ideal.ofBits .f32 0x40000000#32 : EReal) = 2 := by
  simp [Ideal.ofBits, Ideal.ieee, -EReal.coe_mul]; norm_num; rfl

theorem bot_eq : (Ideal.ofBits .f32 0xFF800000#32 : EReal) = ⊥ := by simp [Ideal.ofBits, Ideal.ieee]

theorem dists_apply (p : FVec Ideal S4x3x8192 .f32) (q : FVec Ideal S4x3x2048 .f32) (b : Fin 4) (m : Fin 2048) (n : Fin 8192) :
    dists p q (ix3 b m n) = ((∑ a : Fin 3, q (ix3 b a m) * q (ix3 b a m)) - 2 * (∑ a : Fin 3, q (ix3 b a m) * p (ix3 b a n))
      + ∑ a : Fin 3, p (ix3 b a n) * p (ix3 b a n) : EReal) := by
  pointwise [dists]
  rw [two_eq]

theorem width_apply (t : FVec Ideal S_ .f32) : width t ix0 = (max (t ix0 * t ix0) (Ideal.ofBits .f32 0x38D1B717#32)
    + Ideal.ofBits .f32 0x322BCC77#32 : EReal) := by
  pointwise [width]

theorem scores_apply (x : FVec Ideal S4x3x2048x16 .f32) (q : FVec Ideal S4x3x2048 .f32) (s : FVec Ideal S_ .f32)
    (b : Fin 4) (m : Fin 2048) (k : Fin 16) : scores x q s (ix4 b 0 m k) =
    (-(Ideal.div (∑ a : Fin 3, (x (ix4 b a m k) - q (ix3 b a m)) * (x (ix4 b a m k) - q (ix3 b a m))) (s ix0)) : EReal) := by
  pointwise [scores]

theorem raised_apply (z : FVec Ideal S4x1x2048x16 .f32) (b : Fin 4) (m : Fin 2048) (k : Fin 16) :
    raised z (ix4 b 0 m k) = Ideal.exp (z (ix4 b 0 m k) - Finset.univ.fold max ⊥ (fun k => z (ix4 b 0 m k) : Fin 16 → EReal)) := by
  pointwise [raised]
  rw [bot_eq, max_eq_right bot_le]

theorem weights_apply (e : FVec Ideal S4x1x2048x16 .f32) (b : Fin 4) (m : Fin 2048) (k : Fin 16) :
    weights e (ix4 b 0 m k) = Ideal.div (e (ix4 b 0 m k)) (∑ k : Fin 16, e (ix4 b 0 m k)) := by
  pointwise [weights]

theorem mean_apply (x : FVec Ideal S4x3x2048x16 .f32) (w : FVec Ideal S4x1x2048x16 .f32) (b : Fin 4) (a : Fin 3) (m : Fin 2048) :
    mean x w (ix3 b a m) = (∑ k : Fin 16, x (ix4 b a m k) * w (ix4 b 0 m k) : EReal) := by
  pointwise [mean]

theorem order_apply (d : FVec Ideal S4x2048x8192 .f32) (b : Fin 4) (m : Fin 2048) (k : Fin 16) :
    order d (ix3 b m k) = BitVec.ofNat 32 (TopK.source (fun n => (-(d (ix3 b m n)) : EReal)) ⟨k, by omega⟩) :=
  (TopK.topK_apply 16 (by omega) (Host.negf d) sliceFits_S4x2048x8192_S4x2048x16 b m k).2

/-- A gather along the points: the entry whose number the table holds. -/
theorem gather_apply (p : FVec Ideal S4x3x8192 .f32) (g : IVec S4x2048x16x1 32) (b : Fin 4) (a : Fin 3) (m : Fin 2048)
    (k : Fin 16) (n : Fin 8192) (hn : g (ix4 b m k 0) = BitVec.ofNat 32 n) :
    Host.gather gather_S4x3x8192_S4x2048x16x1_S4x3x2048x16_1_2_0_0_2_3_131 p g (ix4 b a m k) = p (ix3 b a n) := by
  refine congrArg p (funext fun x => Fin.ext ?_)
  match x with
  | ⟨0, _⟩ => show 0 + (b : ℕ) + 0 = b; omega
  | ⟨1, _⟩ => show 0 + 0 + (a : ℕ) = a; omega
  | ⟨2, _⟩ =>
    have hi : ∀ q, gather_S4x3x8192_S4x2048x16x1_S4x3x2048x16_1_2_0_0_2_3_131.siIdx (ix4 b a m k) q = ix4 b m k 0 := by
      intro q
      funext y
      match y with
      | ⟨0, _⟩ => rfl
      | ⟨1, _⟩ => rfl
      | ⟨2, _⟩ => rfl
      | ⟨3, _⟩ => exact Subsingleton.elim (α := Fin 1) _ _
    show min (g (gather_S4x3x8192_S4x2048x16x1_S4x3x2048x16_1_2_0_0_2_3_131.siIdx (ix4 b a m k) _)).toInt.toNat (8192 - 1) + 0 + 0
      = (n : ℕ)
    rw [hi, hn, BitVec.toInt_ofNat']
    have := n.isLt
    simp only [Int.bmod]
    omega

/-- The point whose number the table holds: a number below 8192 is not negative, so it is kept. -/
theorem near_apply (p : FVec Ideal S4x3x8192 .f32) (i : IVec S4x2048x16 32) (b : Fin 4) (a : Fin 3) (m : Fin 2048) (k : Fin 16)
    (n : Fin 8192) (hn : i (ix3 b m k) = BitVec.ofNat 32 n) : near p i (ix4 b a m k) = p (ix3 b a n) := by
  refine gather_apply p _ b a m k n ?_
  pointwise
  rw [hn]
  have hs : BitVec.slt (BitVec.ofNat 32 (n : ℕ)) 0#32 = false := by
    have := n.isLt
    simp only [BitVec.slt, BitVec.toInt_ofNat', Int.bmod, decide_eq_false_iff_not]
    omega
  show (if BitVec.ofBool (BitVec.slt (BitVec.ofNat 32 (n : ℕ)) 0#32) = 1#1 then _ else _) = _
  rw [hs]
  rfl

/-- The reference's result at an entry, the sixteen nearest points `f k` given. -/
theorem result_apply (p : FVec Ideal S4x3x8192 .f32) (q : FVec Ideal S4x3x2048 .f32) (t : FVec Ideal S_ .f32)
    (b : Fin 4) (a : Fin 3) (m : Fin 2048) (f : Fin 16 → Fin 8192)
    (hf : ∀ k : Fin 16, f k = TopK.source (fun n => (-(dists p q (ix3 b m n)) : EReal)) ⟨k, by omega⟩)
    (z e : Fin 16 → EReal)
    (hz : ∀ k, z k = -(Ideal.div (∑ c : Fin 3, (p (ix3 b c (f k)) - q (ix3 b c m)) * (p (ix3 b c (f k)) - q (ix3 b c m)))
      (width t ix0)))
    (he : ∀ k, e k = Ideal.exp (z k - Finset.univ.fold max ⊥ z)) :
    result p q t (ix3 b a m) = (∑ k : Fin 16, p (ix3 b a (f k)) * Ideal.div (e k) (∑ k : Fin 16, e k) : EReal) := by
  have hn : ∀ c k, near p (order (dists p q)) (ix4 b c m k) = p (ix3 b c (f k)) := fun c k =>
    near_apply p _ b c m k (f k) (by rw [order_apply, hf])
  have hz' : ∀ k, scores (near p (order (dists p q))) q (width t) (ix4 b 0 m k) = z k := fun k => by
    rw [scores_apply, hz]; simp only [hn]
  have he' : ∀ k, raised (scores (near p (order (dists p q))) q (width t)) (ix4 b 0 m k) = e k := fun k => by
    rw [raised_apply, he]; simp only [hz']
  rw [result, mean_apply]
  simp only [hn, weights_apply, he']

end Cert.Proof.Ref
-- ==== Proof.Pre.lean ====
/- The precondition read: the points and the queries are finite, and of every query's squared distances the sixteenth
   smallest lies strictly below the seventeenth; so the sixteen nearest points lie strictly nearer than all others. -/
module

public import proofs.«01_k».proof.Proof.Gen.Pre_sixteenth_is_separate
public import proofs.«01_k».proof.Proof.Ref

@[expose] public section

set_option maxRecDepth 16384

noncomputable section

namespace Cert.Proof.Pre

open Idealize.ShloMosaic Idealize.ShloMosaic.Tactic
open Cert.Pre_sixteenth_is_separate Cert.Pre_sixteenth_is_separate.Gen

variable (p : FVec Ideal S4x3x8192 .f32) (q : FVec Ideal S4x3x2048 .f32) (t : FVec Ideal S_ .f32)

theorem top_eq : (Ideal.ofBits .f32 0x7F800000#32 : EReal) = ⊤ := by simp [Ideal.ofBits, Ideal.ieee]

/-- An extended real whose magnitude is below `⊤` is a real. -/
theorem real_of_abs_lt (x : EReal) (h : BitVec.ofBool (decide (FloatOps.absf (F := Ideal) (φ := .f32) x <
    Ideal.ofBits .f32 0x7F800000#32)) = 1#1) : ∃ y : ℝ, x = (y : EReal) := by
  rw [top_eq] at h
  have h' : max x (-x) < ⊤ := by
    by_contra hn
    rw [show FloatOps.absf (F := Ideal) (φ := .f32) x = max x (-x) from rfl, decide_eq_false hn] at h
    exact absurd h (by decide)
  induction x with
  | bot => simp at h'
  | top => simp at h'
  | coe r => exact ⟨r, rfl⟩

theorem points_real (h : (fn p q t).1 = fun _ => 1#1) (b : Fin 4) (a : Fin 3) (n : Fin 8192) :
    ∃ y : ℝ, p (ix3 b a n) = (y : EReal) := by
  have h1 := congrFun h (ix3 b a n)
  rw [show (fn p q t).1 = (cmpf .olt (Host.absf p) (broadcastInDim S4x3x8192 ![] bcast_S_S4x3x8192
    (constant S_ .f32 0x7F800000#32))) from rfl] at h1
  revert h1
  pointwise
  exact real_of_abs_lt _

theorem queries_real (h : (fn p q t).2.1 = fun _ => 1#1) (b : Fin 4) (a : Fin 3) (m : Fin 2048) :
    ∃ y : ℝ, q (ix3 b a m) = (y : EReal) := by
  have h1 := congrFun h (ix3 b a m)
  rw [show (fn p q t).2.1 = (cmpf .olt (Host.absf q) (broadcastInDim S4x3x2048 ![] bcast_S_S4x3x2048
    (constant S_ .f32 0x7F800000#32))) from rfl] at h1
  revert h1
  pointwise
  exact real_of_abs_lt _

/-- The sixteenth greatest of the negated distances is strictly above the seventeenth. -/
theorem separate (h : (fn p q t).2.2 = fun _ => 1#1) (b : Fin 4) (m : Fin 2048) :
    (fun n => (-(Ref.dists p q (ix3 b m n)) : EReal)) (TopK.source (fun n => (-(Ref.dists p q (ix3 b m n)) : EReal)) 16) <
    (fun n => (-(Ref.dists p q (ix3 b m n)) : EReal)) (TopK.source (fun n => (-(Ref.dists p q (ix3 b m n)) : EReal)) 15) := by
  have h1 := congrFun h (ix2 b m)
  have h2 : (fn p q t).2.2 = cmpf .ogt
      (shapeCast S4x2048 (extractStridedSlice S4x2048x1 ![0, 0, 15] (Host.topK S4x2048x17 2 (FloatOps.cmpfTotal (F := Ideal) (φ := .f32) .gt)
        (Host.negf (Ref.dists p q)) sliceFits_S4x2048x8192_S4x2048x17).1 slices_S4x2048x17_S4x2048x1_0_0_15) shapeCasts_S4x2048x1_S4x2048)
      (shapeCast S4x2048 (extractStridedSlice S4x2048x1 ![0, 0, 16] (Host.topK S4x2048x17 2 (FloatOps.cmpfTotal (F := Ideal) (φ := .f32) .gt)
        (Host.negf (Ref.dists p q)) sliceFits_S4x2048x8192_S4x2048x17).1 slices_S4x2048x17_S4x2048x1_0_0_16) shapeCasts_S4x2048x1_S4x2048) := by
    sl_kernel_rfl
  rw [h2] at h1
  have hk := fun k => (TopK.topK_apply 17 (by omega) (Host.negf (Ref.dists p q)) sliceFits_S4x2048x8192_S4x2048x17 b m k).1
  revert h1
  generalize (Host.topK _ _ _ _ _).1 = v at hk ⊢
  pointwise
  intro h1
  have h3 : v (ix3 b m 16) < v (ix3 b m 15) := by
    by_contra hn
    rw [decide_eq_false hn] at h1
    exact absurd h1 (by decide)
  rw [hk 16, hk 15] at h3
  exact h3

/-- So the first sixteen of a query's points, in order of distance, lie strictly nearer than all others. -/
theorem nearer (h : (fn p q t).2.2 = fun _ => 1#1) (b : Fin 4) (m : Fin 2048) (f : Fin 16 → Fin 8192)
    (hf : ∀ k : Fin 16, f k = TopK.source (fun n => (-(Ref.dists p q (ix3 b m n)) : EReal)) ⟨k, by omega⟩)
    (k : Fin 16) (n : Fin 8192) (hn : ∀ k, f k ≠ n) : Ref.dists p q (ix3 b m (f k)) < Ref.dists p q (ix3 b m n) := by
  obtain ⟨i, rfl⟩ := TopK.source_surjective (fun n => (-(Ref.dists p q (ix3 b m n)) : EReal)) n
  have hi : 16 ≤ (i : ℕ) := by
    by_contra hi
    exact hn ⟨i, by omega⟩ (hf _)
  have h1 := TopK.source_antitone (fun n => (-(Ref.dists p q (ix3 b m n)) : EReal)) (i := 16) (j := i) hi
  have h2 := TopK.source_antitone (fun n => (-(Ref.dists p q (ix3 b m n)) : EReal)) (i := ⟨k, by omega⟩) (j := 15)
    (by show (k : ℕ) ≤ 15; omega)
  have h3 := (h1.trans_lt (separate p q t h b m)).trans_le h2
  rw [hf]
  exact EReal.neg_lt_neg_iff.mp h3

end Cert.Proof.Pre
-- ==== Proof.Softmax.lean ====
/- The two weighted means agree. The reference normalises sixteen exponentials and then adds up the weighted coordinates;
   the kernel adds up over 256 candidates, of which sixteen carry a weight that is not zero, and divides once. -/
module

public import Idealize.ShloMosaic.Lib.Pointwise

@[expose] public section

noncomputable section

namespace Cert.Proof.Softmax

open Idealize.ShloMosaic

/-- Division by a positive extended real is multiplication by a real that is not negative: the inverse, or zero at `⊤`. -/
theorem exists_inverse (s : EReal) (hs : 0 < s) : ∃ i : ℝ, 0 ≤ i ∧ ∀ x : ℝ, Ideal.div x s = ((x * i : ℝ) : EReal) := by
  induction s with
  | bot => exact absurd hs (by simp)
  | top => exact ⟨0, le_rfl, fun x => by simp [Ideal.div]⟩
  | coe r =>
    have hr : 0 < r := by exact_mod_cast hs
    exact ⟨r⁻¹, inv_nonneg.mpr hr.le, fun x => by
      rw [Ideal.div, if_neg hs.ne', ← EReal.coe_inv, ← EReal.coe_mul]⟩

/-- A sum over the candidates of terms that vanish outside `c`'s values is the sum over the sixteen. -/
theorem sum_chosen {n K : ℕ} (c : Fin K → Fin n) (hc : Function.Injective c) (T : Finset (Fin n))
    (hT : ∀ x, x ∈ T ↔ ∃ k, c k = x) (u : Fin n → EReal) (hu : ∀ x, x ∉ T → u x = 0) : ∑ x, u x = ∑ k, u (c k) := by
  rw [← Finset.sum_subset (Finset.subset_univ T) (fun x _ hx => hu x hx)]
  have : T = Finset.univ.image c := by ext x; simp [hT]
  rw [this, Finset.sum_image fun a _ b _ h => hc h]

theorem coe_sum {K : ℕ} (u : Fin K → ℝ) : ∑ k, (u k : EReal) = ((∑ k, u k : ℝ) : EReal) :=
  (map_sum (⟨⟨Real.toEReal, EReal.coe_zero⟩, EReal.coe_add⟩ : ℝ →+ EReal) u Finset.univ).symm

/-- The equation. -/
theorem mean_eq {n : ℕ} (c : Fin 16 → Fin n) (hc : Function.Injective c) (T : Finset (Fin n)) (hT : ∀ x, x ∈ T ↔ ∃ k, c k = x)
    (ed X : Fin n → ℝ) (s : EReal) (hs : 0 < s) (w : Fin n → EReal)
    (hw : ∀ x, w x = if x ∈ T then Ideal.exp ((Finset.univ.fold min (⊤ : EReal) (fun y => if y ∈ T then (ed y : EReal) else ⊤)
      - ed x) * Ideal.div 1 s) else 0)
    (z e : Fin 16 → EReal) (hz : ∀ k, z k = -(Ideal.div (ed (c k)) s))
    (he : ∀ k, e k = Ideal.exp (z k - Finset.univ.fold max ⊥ z)) :
    Ideal.div (∑ x, w x * (X x : EReal)) (∑ x, w x) = ∑ k, (X (c k) : EReal) * Ideal.div (e k) (∑ k, e k) := by
  obtain ⟨i, hi, hdiv⟩ := exists_inverse s hs
  obtain ⟨k0, -, hk0⟩ := Finset.exists_min_image (Finset.univ : Finset (Fin 16)) (fun k => ed (c k)) ⟨0, Finset.mem_univ _⟩
  have hmin : Finset.univ.fold min (⊤ : EReal) (fun y => if y ∈ T then (ed y : EReal) else ⊤) = (ed (c k0) : EReal) := by
    refine le_antisymm ?_ ?_
    · exact Finset.fold_min_le _ |>.mpr (.inr ⟨c k0, Finset.mem_univ _, by rw [if_pos ((hT _).mpr ⟨_, rfl⟩)]⟩)
    · refine Finset.le_fold_min _ |>.mpr ⟨le_top, fun y _ => ?_⟩
      by_cases hy : y ∈ T
      · obtain ⟨k, rfl⟩ := (hT y).mp hy
        rw [if_pos hy]
        exact EReal.coe_le_coe_iff.mpr (hk0 k (Finset.mem_univ _))
      · rw [if_neg hy]; exact le_top
  have hz' : ∀ k, z k = ((-(ed (c k) * i) : ℝ) : EReal) := fun k => by rw [hz, hdiv, EReal.coe_neg]
  have hmax : Finset.univ.fold max ⊥ z = ((-(ed (c k0) * i) : ℝ) : EReal) := by
    refine le_antisymm ?_ ?_
    · refine Finset.fold_max_le _ |>.mpr ⟨bot_le, fun k _ => ?_⟩
      rw [hz']
      exact EReal.coe_le_coe_iff.mpr (neg_le_neg (mul_le_mul_of_nonneg_right (hk0 k (Finset.mem_univ _)) hi))
    · exact Finset.le_fold_max _ |>.mpr (.inr ⟨k0, Finset.mem_univ _, (hz' k0).ge⟩)
  have he' : ∀ k, e k = ((Real.exp ((ed (c k0) - ed (c k)) * i) : ℝ) : EReal) := fun k => by
    rw [he, hz', hmax, ← EReal.coe_sub]
    show ((Real.exp _ : ℝ) : EReal) = _
    congr 2; ring
  have hwc : ∀ k, w (c k) = e k := fun k => by
    rw [hw, if_pos ((hT _).mpr ⟨_, rfl⟩), hmin, ← EReal.coe_one, hdiv, one_mul, ← EReal.coe_sub, ← EReal.coe_mul, he']
    rfl
  have hw0 : ∀ x, x ∉ T → w x = 0 := fun x hx => by rw [hw, if_neg hx]
  rw [sum_chosen c hc T hT w hw0, sum_chosen c hc T hT _ (fun x hx => by rw [hw0 x hx, zero_mul])]
  simp only [hwc, he', ← EReal.coe_mul, coe_sum]
  have hp : 0 < ∑ k, Real.exp ((ed (c k0) - ed (c k)) * i) := Finset.sum_pos (fun k _ => Real.exp_pos _) ⟨0, Finset.mem_univ _⟩
  have hd : ∀ y : ℝ, Ideal.div y ((∑ k, Real.exp ((ed (c k0) - ed (c k)) * i) : ℝ) : EReal)
      = ((y * (∑ k, Real.exp ((ed (c k0) - ed (c k)) * i))⁻¹ : ℝ) : EReal) := fun y => by
    rw [Ideal.div, if_neg (by exact_mod_cast hp.ne'), ← EReal.coe_inv, ← EReal.coe_mul]
  simp only [hd, ← EReal.coe_mul, coe_sum, Finset.sum_mul]
  congr 1
  exact Finset.sum_congr rfl fun k _ => by ring

end Cert.Proof.Softmax
-- ==== Proof.Equation.lean ====
/- The result array is the reference's: at every batch, coordinate and query the kernel's weighted mean over the candidates
   is the reference's over the sixteen nearest points. -/
module

public import proofs.«01_k».proof.Proof.Array
public import proofs.«01_k».proof.Proof.Column
public import proofs.«01_k».proof.Proof.Pre
public import proofs.«01_k».proof.Proof.Softmax

@[expose] public section

set_option maxRecDepth 16384

noncomputable section

namespace Cert.Proof.Equation

open Cert.KernelIdeal Cert.KernelIdeal.Gen Idealize.ShloMosaic
open Idealize.ShloMosaic.TcCoe Idealize.SL.Sem
open Cert.Proof.Column Cert.Proof.Array Cert.Proof.Marks

/-- The reference's bandwidth is positive, whatever the temperature. -/
theorem width_pos (t : FVec Ideal S_ .f32) : (0 : EReal) < Ref.width t ix0 := by
  have h1 : (0 : EReal) < Ideal.ofBits .f32 0x38D1B717#32 := by
    simp [Ideal.ofBits, Ideal.ieee, -EReal.coe_mul]
  have h2 : (0 : EReal) < Ideal.ofBits .f32 0x322BCC77#32 := by
    simp [Ideal.ofBits, Ideal.ieee, -EReal.coe_mul]
  rw [Ref.width_apply]
  exact h2.trans_le (le_add_of_nonneg_left (h1.le.trans (le_max_right _ _)))

theorem one_eq : (Ideal.ofBits .f32 0x3F800000#32 : EReal) = 1 := by
  simp [Ideal.ofBits, Ideal.ieee, -EReal.coe_mul]; norm_num

/-- The kernel multiplies by the reciprocal of the reference's bandwidth. -/
theorem recip_eq (t : FVec Ideal S_ .f32) :
    Body.recip (F := Ideal) (Entry.sigma t (ix2 0 0)) = Ideal.div 1 (Ref.width t ix0) := by
  rw [Entry.sigma_apply, Ref.width_apply, ← one_eq]
  rfl

variable (m : (ℓ : Loc nD τ sig) → Buf (Elt Ideal) ℓ) (c : Dev nD)

/-- What the blocks of a grid point hold, where the arguments are finite. -/
theorem holds (b : Fin 4) (k : Fin 8) (j : Fin 256) (P : Fin 3 → Fin 8192 → ℝ) (Q : Fin 3 → ℝ)
    (hP : ∀ a n, Entry.points m c (ix3 b a n) = (P a n : EReal))
    (hQ : ∀ a, Entry.queries m c (ix3 b a (query k j)) = (Q a : EReal)) :
    Holds (iblk m c 0 (at32 b k)) (iblk m c 1 (at32 b k)) (iblk m c 2 (at32 b k)) (iblk m c 3 (at32 b k)) j P Q where
  points a n := (read0 m c b k a n).trans (hP a n)
  query a := (read1 m c b k a j).trans (hQ a)
  lengths n := by
    rw [read2, Entry.lengths_apply]
    simp only [hP, ← EReal.coe_mul, Softmax.coe_sum]
  parts a e r := by
    rw [← Entry.parts_sum (Entry.points m c) b r a e (P a (Reads.point e r)) (hP a (Reads.point e r))]
    unfold Reads.partSum
    rw [read3, read3, read3]
    have hz : ∀ h h', (⟨16 * (a : ℕ) + e, h⟩ : Fin 144) = ⟨48 * 0 + (16 * (a : ℕ) + e), h'⟩ := fun _ _ => Fin.ext (by simp)
    rw [hz _ (by omega)]

/-- The reference's squared distances, where the arguments are finite. -/
theorem dists_eq (p : FVec Ideal S4x3x8192 .f32) (q : FVec Ideal S4x3x2048 .f32) (b : Fin 4) (i : Fin 2048)
    (P : Fin 3 → Fin 8192 → ℝ) (Q : Fin 3 → ℝ) (hP : ∀ a n, p (ix3 b a n) = (P a n : EReal))
    (hQ : ∀ a, q (ix3 b a i) = (Q a : EReal)) (n : Fin 8192) : Ref.dists p q (ix3 b i n) = (sq P Q n : EReal) := by
  rw [Ref.dists_apply]
  simp only [hP, hQ, ← EReal.coe_mul, Softmax.coe_sum, show (2 : EReal) = ((2 : ℝ) : EReal) from rfl, ← EReal.coe_add,
    ← EReal.coe_sub]
  rfl

/-- The result array at an entry. -/
theorem entry_eq (h0 : (Cert.Pre_sixteenth_is_separate.fn (Entry.points m c) (Entry.queries m c) (Entry.temperature m c)).1
      = fun _ => 1#1)
    (h1 : (Cert.Pre_sixteenth_is_separate.fn (Entry.points m c) (Entry.queries m c) (Entry.temperature m c)).2.1 = fun _ => 1#1)
    (h2 : (Cert.Pre_sixteenth_is_separate.fn (Entry.points m c) (Entry.queries m c) (Entry.temperature m c)).2.2 = fun _ => 1#1)
    (b : Fin 4) (a : Fin 3) (k : Fin 8) (j : Fin 256) :
    (dats m 0 c).arrAt 5 cfg0.N (ix3 b a (query k j)) =
      Ref.result (Entry.points m c) (Entry.queries m c) (Entry.temperature m c) (ix3 b a (query k j)) := by
  choose P hP using Pre.points_real _ _ _ h0 b
  choose Q' hQ' using Pre.queries_real _ _ _ h1 b
  set Q : Fin 3 → ℝ := fun a => Q' a (query k j)
  have hQ : ∀ a, Entry.queries m c (ix3 b a (query k j)) = (Q a : EReal) := fun a => hQ' a _
  have H := holds m c b k j P Q hP hQ
  have hd := dists_eq (Entry.points m c) (Entry.queries m c) b (query k j) P Q hP hQ
  -- the sixteen nearest points in order
  set f : Fin 16 → Fin 8192 := fun u => TopK.source (fun n => (-(Ref.dists (Entry.points m c) (Entry.queries m c)
    (ix3 b (query k j) n)) : EReal)) ⟨u, by omega⟩ with hf
  have hinj : Function.Injective f := fun u v h => Fin.ext (Fin.mk.inj (TopK.source_injective _ h))
  have hS : ∀ i ∈ Finset.univ.image f, ∀ n, n ∉ Finset.univ.image f → sq P Q i < sq P Q n := by
    intro i hi n hn
    obtain ⟨u, -, rfl⟩ := Finset.mem_image.mp hi
    have := Pre.nearer _ _ _ h2 b (query k j) f (fun _ => rfl) u n
      (fun v hv => hn (Finset.mem_image.mpr ⟨v, Finset.mem_univ _, hv⟩))
    rw [hd, hd] at this
    exact EReal.coe_lt_coe_iff.mp this
  have hcard : (Finset.univ.image f).card = 16 := by rw [Finset.card_image_of_injective _ hinj]; rfl
  -- the kernel's entry, and where the sixteen are among the candidates
  obtain ⟨w, hw, hb⟩ := block_eq (Finset.univ.image f) hcard hS H (Entry.sigma (Entry.temperature m c) (ix2 0 0)) a
  set g := col (Body.groupsOf (iblk m c 0 (at32 b k)) (iblk m c 1 (at32 b k)) (iblk m c 2 (at32 b k))) j with hg
  choose u hu using fun v => exists_cand (Finset.univ.image f) hcard hS H (f v) (Finset.mem_image.mpr ⟨v, Finset.mem_univ _, rfl⟩)
  rw [arr_eq, read4, hb]
  have huinj : Function.Injective u := fun v v' h => hinj (by rw [← hu v, ← hu v', h])
  have hT : ∀ x, x ∈ ours g (Finset.univ.image f) ↔ ∃ v, u v = x := by
    intro x
    simp only [ours, Finset.mem_filter, Finset.mem_univ, true_and, Finset.mem_image]
    constructor
    · rintro ⟨v, hv⟩
      exact ⟨v, cand_injective g (groups_lt_top H) ((hu v).trans hv)⟩
    · rintro ⟨v, rfl⟩
      exact ⟨v, (hu v).symm⟩
  rw [recip_eq] at hw
  set z : Fin 16 → EReal := fun v => -(Ideal.div (apart P Q (f v) : EReal) (Ref.width (Entry.temperature m c) ix0))
  rw [Ref.result_apply _ _ _ b a (query k j) f (fun _ => rfl) z (fun v => Ideal.exp (z v - Finset.univ.fold max ⊥ z))
    (fun v => ?_) (fun _ => rfl)]
  · refine (Softmax.mean_eq u huinj _ hT (fun x => apart P Q (cand g x)) (fun x => P a (cand g x))
      (Ref.width (Entry.temperature m c) ix0) (width_pos _) w hw z _ (fun v => ?_) (fun _ => rfl)).trans ?_
    · show -(Ideal.div (apart P Q (f v) : EReal) _) = _
      rw [← hu]
    · refine Finset.sum_congr rfl fun v _ => ?_
      rw [hP, ← hu]
  · simp only [hP, hQ, ← EReal.coe_sub, ← EReal.coe_mul, Softmax.coe_sum]
    rfl

/-- The result array. -/
theorem array_eq (h0 : (Cert.Pre_sixteenth_is_separate.fn (Entry.points m c) (Entry.queries m c) (Entry.temperature m c)).1
      = fun _ => 1#1)
    (h1 : (Cert.Pre_sixteenth_is_separate.fn (Entry.points m c) (Entry.queries m c) (Entry.temperature m c)).2.1 = fun _ => 1#1)
    (h2 : (Cert.Pre_sixteenth_is_separate.fn (Entry.points m c) (Entry.queries m c) (Entry.temperature m c)).2.2 = fun _ => 1#1) :
    (dats m 0 c).arrAt 5 cfg0.N = Ref.result (Entry.points m c) (Entry.queries m c) (Entry.temperature m c) := by
  funext i
  rw [eq_ix3 i]
  have hq : i 2 = query ⟨(i 2 : ℕ) / 256, by have : (i 2 : ℕ) < 2048 := (i 2).isLt; omega⟩ ⟨(i 2 : ℕ) % 256, by omega⟩ :=
    Fin.ext (by show (i 2 : ℕ) = 256 * ((i 2 : ℕ) / 256) + (i 2 : ℕ) % 256; omega)
  rw [hq]
  exact entry_eq m c h0 h1 h2 _ _ _ _

end Cert.Proof.Equation
-- ==== Proof.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs and leaves its arguments. -/
theorem kernel_frame : Cert.quiescent_Kernel := fun m ρ _ => Cert.Kernel.Gen.frame m ρ

/-- So does its ideal form. -/
theorem ideal_frame : Cert.quiescent_KernelIdeal := fun m ρ _ => Cert.KernelIdeal.Gen.frame m ρ

/-- So does the reference: its run is the run of its operations in order, and it declares no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal form reads the constant 3.0e38 as `⊤`. -/
theorem preserves : Cert.preserves_Kernel_KernelIdeal := IdealRules.named_const.statement _ _ .f32 _ ⊤ rfl

/-- The result arrays agree. -/
theorem algebraic : Cert.algebraic_KernelIdeal_ReferenceIdeal_pre_sixteenth_is_separate := by
  intro m ρ m' ρ' hpre hagree
  refine ⟨fun c => Ref.result (Entry.points m c) (Entry.queries m c) (Entry.temperature m c), ?_, ?_⟩
  · exact (θ_run Cert.KernelIdeal.defs _ _).mono
      (fun _ h c => ⟨(h c).1.trans (Equation.array_eq m c (hpre c).1 (hpre c).2.1 (hpre c).2.2), (h c).2⟩)
      (Cert.KernelIdeal.Value.run_blocks (F := Ideal) m ρ)
  · refine (θ_run Cert.ReferenceIdeal.defs _ _).mono (fun _ h c => ⟨(h c).1.trans ((Ref.res_eq m' c).trans ?_), (h c).2⟩)
      (Cert.ReferenceIdeal.Value.run (F := Ideal) m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_sixteenth_is_separate.Gen.facts,
    kernel_frame, ideal_frame, fun m ρ _ => ideal_frame m ρ trivial, reference_frame, fun m ρ _ => reference_frame m ρ trivial,
    preserves, algebraic⟩

end Cert.Proof

end
